-- ==== Defs.lean ====
def Pre_Kernel [hPre_words_in_table : Cert.Pre_words_in_table.Facts] (m : (ℓ : Loc Cert.Kernel.nD Cert.Kernel.τ Cert.Kernel.sig) → Buf (Elt Bits) ℓ) : Prop :=
  ∀ c : Dev Cert.Kernel.nD,
    (Cert.Pre_words_in_table.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_words_in_table : Cert.Pre_words_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_words_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_words_in_table [hPre_words_in_table : Cert.Pre_words_in_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_words_in_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_words_in_table : Cert.Pre_words_in_table.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_words_in_table : Cert.Pre_words_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_words_in_table [hReferenceIdeal : Cert.ReferenceIdeal.Facts] [hPre_words_in_table : Cert.Pre_words_in_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_words_in_table m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_words_in_table : Cert.Pre_words_in_table.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_words_in_table : Cert.Pre_words_in_table.Facts),
    quiescent_Kernel (hKernel := hKernel) (hPre_words_in_table := hPre_words_in_table)
    ∧ quiescent_KernelIdeal (hKernelIdeal := hKernelIdeal) (hPre_words_in_table := hPre_words_in_table)
    ∧ quiescent_ReferenceIdeal (hReferenceIdeal := hReferenceIdeal)
    ∧ quiescent_ReferenceIdeal_pre_words_in_table (hReferenceIdeal := hReferenceIdeal) (hPre_words_in_table := hPre_words_in_table)
    ∧ preserves_Kernel_KernelIdeal
    ∧ algebraic_KernelIdeal_ReferenceIdeal (hKernelIdeal := hKernelIdeal) (hReferenceIdeal := hReferenceIdeal) (hPre_words_in_table := hPre_words_in_table)
-- ==== Pre_words_in_table.lean ====
abbrev S1024x50 : Shape := ⟨2, ![1024, 50]⟩
abbrev S100000x128 : Shape := ⟨2, ![100000, 128]⟩
abbrev S6400x4096 : Shape := ⟨2, ![6400, 4096]⟩
abbrev S4096 : Shape := ⟨1, ![4096]⟩
abbrev S4096x4096 : Shape := ⟨2, ![4096, 4096]⟩
abbrev S_ : Shape := ⟨0, ![]⟩

class Facts : Prop where
  bcast_S_S1024x50 : S_.BroadcastsInDim S1024x50 (![] : Fin 0 → Fin S1024x50.rank)
  reducesTo_S1024x50_S_d0_1 : S1024x50.ReducesTo [0, 1] S_
  h_S_ : 0 < S_.numel

variable [Facts]

def fn {F : FTy → Type} [FloatOps F] (main_arg0 : IVec S1024x50 32) (main_arg1 : FVec F S100000x128 .f32) (main_arg2 : FVec F S6400x4096 .f32) (main_arg3 : FVec F S4096 .f32) (main_arg4 : FVec F S4096x4096 .f32) (main_arg5 : FVec F S4096 .f32) : IVec S_ 1 :=
  let main_c : IVec S_ 32 := constantI S_ 32 0#32
  let main_v0 : IVec S1024x50 32 := broadcastInDim S1024x50 ![] bcast_S_S1024x50 main_c
  let main_v1 : IVec S1024x50 1 := cmpi .sge main_arg0 main_v0
  let main_c_0 : IVec S_ 32 := constantI S_ 32 100000#32
  let main_v2 : IVec S1024x50 32 := broadcastInDim S1024x50 ![] bcast_S_S1024x50 main_c_0
  let main_v3 : IVec S1024x50 1 := cmpi .slt main_arg0 main_v2
  let main_v4 : IVec S1024x50 1 := andi main_v1 main_v3
  let main_c_1 : IVec S_ 1 := constantI S_ 1 1#1
  let main_v5 : IVec S_ 1 := (fun x v => Host.reduce IntOp.andi x v reducesTo_S1024x50_S_d0_1 h_S_) main_v4 main_c_1
  main_v5
-- ==== Kernel.lean ====
abbrev S1024x50 : Shape := ⟨2, ![1024, 50]⟩
abbrev S100000x128 : Shape := ⟨2, ![100000, 128]⟩
abbrev S6400x4096 : Shape := ⟨2, ![6400, 4096]⟩
abbrev S4096 : Shape := ⟨1, ![4096]⟩
abbrev S4096x4096 : Shape := ⟨2, ![4096, 4096]⟩
abbrev S51200 : Shape := ⟨1, ![51200]⟩
abbrev S51200x128 : Shape := ⟨2, ![51200, 128]⟩
abbrev S1600 : Shape := ⟨1, ![1600]⟩
abbrev S400x128 : Shape := ⟨2, ![400, 128]⟩
abbrev S_ : Shape := ⟨0, ![]⟩
abbrev S400 : Shape := ⟨1, ![400]⟩
abbrev S1024x6400 : Shape := ⟨2, ![1024, 6400]⟩
abbrev S1x4096 : Shape := ⟨2, ![1, 4096]⟩
abbrev S1024x4096 : Shape := ⟨2, ![1024, 4096]⟩
abbrev S1024x640 : Shape := ⟨2, ![1024, 640]⟩
abbrev S640x2048 : Shape := ⟨2, ![640, 2048]⟩
abbrev S1x2048 : Shape := ⟨2, ![1, 2048]⟩
abbrev S1024x2048 : Shape := ⟨2, ![1024, 2048]⟩
abbrev S1024x1024 : Shape := ⟨2, ![1024, 1024]⟩

abbrev nBuf : Table → Nat
  | .hbm => 13
  | .local .tc .vmem => 18
  | .local .scVector .vmem => 2
  | _ => 0

abbrev bufTy : (tb : Table) → Fin (nBuf tb) → BufTy
  | .hbm, ⟨0, _⟩ => ⟨S1024x50, .i32⟩
  | .hbm, ⟨1, _⟩ => ⟨S100000x128, .f32⟩
  | .hbm, ⟨2, _⟩ => ⟨S6400x4096, .f32⟩
  | .hbm, ⟨3, _⟩ => ⟨S4096, .f32⟩
  | .hbm, ⟨4, _⟩ => ⟨S4096x4096, .f32⟩
  | .hbm, ⟨5, _⟩ => ⟨S4096, .f32⟩
  | .hbm, ⟨6, _⟩ => ⟨S51200, .i32⟩
  | .hbm, ⟨7, _⟩ => ⟨S51200x128, .f32⟩
  | .hbm, ⟨8, _⟩ => ⟨S1024x6400, .f32⟩
  | .hbm, ⟨9, _⟩ => ⟨S1x4096, .f32⟩
  | .hbm, ⟨10, _⟩ => ⟨S1024x4096, .bf16⟩
  | .hbm, ⟨11, _⟩ => ⟨S1x4096, .f32⟩
  | .hbm, ⟨12, _⟩ => ⟨S1024x4096, .f32⟩
  | .local .tc .vmem, ⟨0, _⟩ => ⟨S1024x640, .f32⟩
  | .local .tc .vmem, ⟨1, _⟩ => ⟨S1024x640, .f32⟩
  | .local .tc .vmem, ⟨2, _⟩ => ⟨S640x2048, .f32⟩
  | .local .tc .vmem, ⟨3, _⟩ => ⟨S640x2048, .f32⟩
  | .local .tc .vmem, ⟨4, _⟩ => ⟨S1x2048, .f32⟩
  | .local .tc .vmem, ⟨5, _⟩ => ⟨S1x2048, .f32⟩
  | .local .tc .vmem, ⟨6, _⟩ => ⟨S1024x2048, .bf16⟩
  | .local .tc .vmem, ⟨7, _⟩ => ⟨S1024x2048, .bf16⟩
  | .local .tc .vmem, ⟨8, _⟩ => ⟨S1024x2048, .f32⟩
  | .local .tc .vmem, ⟨9, _⟩ => ⟨S1024x1024, .bf16⟩
  | .local .tc .vmem, ⟨10, _⟩ => ⟨S1024x1024, .bf16⟩
  | .local .tc .vmem, ⟨11, _⟩ => ⟨S1024x2048, .f32⟩
  | .local .tc .vmem, ⟨12, _⟩ => ⟨S1024x2048, .f32⟩
  | .local .tc .vmem, ⟨13, _⟩ => ⟨S1x2048, .f32⟩
  | .local .tc .vmem, ⟨14, _⟩ => ⟨S1x2048, .f32⟩
  | .local .tc .vmem, ⟨15, _⟩ => ⟨S1024x2048, .f32⟩
  | .local .tc .vmem, ⟨16, _⟩ => ⟨S1024x2048, .f32⟩
  | .local .tc .vmem, ⟨17, _⟩ => ⟨S1024x2048, .f32⟩
  | .local .scVector .vmem, ⟨0, _⟩ => ⟨S1600, .i32⟩
  | .local .scVector .vmem, ⟨1, _⟩ => ⟨S400x128, .f32⟩
  | _, _ => ⟨S1024x50, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 19 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTables nBuf rfl bufTy 4 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_arg1_scv : Ref sig .scVector := ⟨.hbm, 1, rfl⟩
abbrev main_v0_scv : Ref sig .scVector := ⟨.hbm, 6, rfl⟩
abbrev main_v1_scv : Ref sig .scVector := ⟨.hbm, 7, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc1_scratch0 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg1_1 : Ref sig .tc := ⟨.vmem, 12, rfl⟩
abbrev cc2_stg2_0 : Ref sig .tc := ⟨.vmem, 13, rfl⟩
abbrev cc2_stg2_1 : Ref sig .tc := ⟨.vmem, 14, rfl⟩
abbrev cc2_stg3_0 : Ref sig .tc := ⟨.vmem, 15, rfl⟩
abbrev cc2_stg3_1 : Ref sig .tc := ⟨.vmem, 16, rfl⟩
abbrev cc2_scratch0 : Ref sig .tc := ⟨.vmem, 17, rfl⟩
abbrev cc0_scratch0 : Ref sig .scVector := ⟨.vmem, 0, rfl⟩
abbrev cc0_scratch1 : Ref sig .scVector := ⟨.vmem, 1, rfl⟩
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc2_sem3_0 : DmaSem sig := 17
abbrev cc2_sem3_1 : DmaSem sig := 18
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  ![v2.toNat]
@[reducible] def k0_t1_loop : Scf.Loop 32 :=
  let c0_i32 : BitVec 32 := 0#32
  let c4_i32 : BitVec 32 := 4#32
  let v3 : BitVec 32 := Scalar.addi c0_i32 c4_i32
  let c1_i32 : BitVec 32 := 1#32
  ⟨c0_i32, v3, c1_i32⟩
def k0_off2 (k0_t1 : Fin k0_t1_loop.trips) : Fin 1 → Nat :=
  let c0_i32_1 : BitVec 32 := 0#32
  let c0_i32 : BitVec 32 := 0#32
  let c1_i32 : BitVec 32 := 1#32
  let arg8 : BitVec 32 := Scf.iv c0_i32 c1_i32 k0_t1
  let c400_i32 : BitVec 32 := 400#32
  let v4 : BitVec 32 := Scalar.muli arg8 c400_i32
  let v5 : BitVec 32 := Scalar.addi c0_i32_1 v4
  ![v5.toNat]
def k0_off3 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c0_i32_1 : BitVec 32 := 0#32
  let c0_i32 : BitVec 32 := 0#32
  let c1_i32 : BitVec 32 := 1#32
  let arg8 : BitVec 32 := Scf.iv c0_i32 c1_i32 k0_t1
  let c400_i32 : BitVec 32 := 400#32
  let v4 : BitVec 32 := Scalar.muli arg8 c400_i32
  let v5 : BitVec 32 := Scalar.addi c0_i32_1 v4
  let v10 : BitVec 32 := Scalar.addi v2 v5
  let c0_i32_6_r1 : BitVec 32 := 0#32
  ![v10.toNat, 0]
abbrev grid1 : Pipeline.Grid := ⟨2, ![2, 10], ![false, false]⟩

def k1_cond2 (i : grid1.Coords) : BitVec 1 :=
  let arg1 : BitVec 32 := BitVec.ofNat 32 (i 1).val
  let c9_i32 : BitVec 32 := 9#32
  let v14 : BitVec 1 := Scalar.cmpi .eq arg1 c9_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S1024x640 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S640x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x2048 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![2, 4], ![false, false]⟩

def k2_cond2 (i : grid2.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1024x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1024x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024x50 : Shape := ⟨2, ![1024, 50]⟩
abbrev S100000x128 : Shape := ⟨2, ![100000, 128]⟩
abbrev S6400x4096 : Shape := ⟨2, ![6400, 4096]⟩
abbrev S4096 : Shape := ⟨1, ![4096]⟩
abbrev S4096x4096 : Shape := ⟨2, ![4096, 4096]⟩
abbrev S_ : Shape := ⟨0, ![]⟩
abbrev S1024x50x1 : Shape := ⟨3, ![1024, 50, 1]⟩
abbrev S1 : Shape := ⟨1, ![1]⟩
abbrev S1x1x1 : Shape := ⟨3, ![1, 1, 1]⟩
abbrev S1024x50x128 : Shape := ⟨3, ![1024, 50, 128]⟩
abbrev S1024x6400 : Shape := ⟨2, ![1024, 6400]⟩
abbrev S1024x4096 : Shape := ⟨2, ![1024, 4096]⟩
abbrev S1x4096 : Shape := ⟨2, ![1, 4096]⟩

abbrev nBuf : Space → Nat
  | .hbm => 41
  | .vmem => 0
  | .smem => 0
  | _ => 0

abbrev bufTy : (tb : Table) → Fin (tcTables nBuf tb) → BufTy
  | .hbm, ⟨0, _⟩ => ⟨S1024x50, .i32⟩
  | .hbm, ⟨1, _⟩ => ⟨S100000x128, .f32⟩
  | .hbm, ⟨2, _⟩ => ⟨S6400x4096, .f32⟩
  | .hbm, ⟨3, _⟩ => ⟨S4096, .f32⟩
  | .hbm, ⟨4, _⟩ => ⟨S4096x4096, .f32⟩
  | .hbm, ⟨5, _⟩ => ⟨S4096, .f32⟩
  | .hbm, ⟨6, _⟩ => ⟨S_, .i32⟩
  | .hbm, ⟨7, _⟩ => ⟨S1024x50, .i32⟩
  | .hbm, ⟨8, _⟩ => ⟨S1024x50, .i1⟩
  | .hbm, ⟨9, _⟩ => ⟨S_, .i32⟩
  | .hbm, ⟨10, _⟩ => ⟨S1024x50, .i32⟩
  | .hbm, ⟨11, _⟩ => ⟨S1024x50, .i32⟩
  | .hbm, ⟨12, _⟩ => ⟨S1024x50, .i32⟩
  | .hbm, ⟨13, _⟩ => ⟨S1024x50x1, .i32⟩
  | .hbm, ⟨14, _⟩ => ⟨S1, .i32⟩
  | .hbm, ⟨15, _⟩ => ⟨S_, .i32⟩
  | .hbm, ⟨16, _⟩ => ⟨S1024x50x1, .i32⟩
  | .hbm, ⟨17, _⟩ => ⟨S1024x50x1, .i1⟩
  | .hbm, ⟨18, _⟩ => ⟨S1x1x1, .i32⟩
  | .hbm, ⟨19, _⟩ => ⟨S1024x50x1, .i32⟩
  | .hbm, ⟨20, _⟩ => ⟨S1024x50x1, .i1⟩
  | .hbm, ⟨21, _⟩ => ⟨S1024x50x1, .i1⟩
  | .hbm, ⟨22, _⟩ => ⟨S_, .i1⟩
  | .hbm, ⟨23, _⟩ => ⟨S1024x50, .i1⟩
  | .hbm, ⟨24, _⟩ => ⟨S1024x50x128, .f32⟩
  | .hbm, ⟨25, _⟩ => ⟨S1024x50x128, .i1⟩
  | .hbm, ⟨26, _⟩ => ⟨S_, .f32⟩
  | .hbm, ⟨27, _⟩ => ⟨S1024x50x128, .f32⟩
  | .hbm, ⟨28, _⟩ => ⟨S1024x50x128, .f32⟩
  | .hbm, ⟨29, _⟩ => ⟨S1024x6400, .f32⟩
  | .hbm, ⟨30, _⟩ => ⟨S1024x4096, .f32⟩
  | .hbm, ⟨31, _⟩ => ⟨S1x4096, .f32⟩
  | .hbm, ⟨32, _⟩ => ⟨S1024x4096, .f32⟩
  | .hbm, ⟨33, _⟩ => ⟨S1024x4096, .f32⟩
  | .hbm, ⟨34, _⟩ => ⟨S_, .f32⟩
  | .hbm, ⟨35, _⟩ => ⟨S1024x4096, .f32⟩
  | .hbm, ⟨36, _⟩ => ⟨S1024x4096, .f32⟩
  | .hbm, ⟨37, _⟩ => ⟨S1024x4096, .f32⟩
  | .hbm, ⟨38, _⟩ => ⟨S1x4096, .f32⟩
  | .hbm, ⟨39, _⟩ => ⟨S1024x4096, .f32⟩
  | .hbm, ⟨40, _⟩ => ⟨S1024x4096, .f32⟩
  | _, _ => ⟨S1024x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_cst : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩

abbrev nD : Nat := 1
abbrev τ : Topo := Topo.v7x

variable {F : FTy → Type} [FloatOps F]
-- ==== Proof.KernelIdeal.Tile.lean ====
/-
  The SparseCore gather of `KernelIdeal`: what one tile does, carried with its value.

  Tile `(c, s)` fetches its 1600 row numbers, then in four trips gathers 400 rows of the table into its row
  buffer and copies them out to rows `3200 s + 1600 c + 400 t …` of the result. The table is read by all 32
  tiles at once, each at a thirty-second share of it.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.ShareLeaves
public import Idealize.ShloMosaic.Lib.StableHlo.Run
public import Idealize.ShloMosaic.Lib.Pipeline.Kit
public import Idealize.ShloMosaic.Lib.Pipeline.Value
public import Idealize.ShloMosaic.Lib.Pipeline.ValueKit
public import Idealize.ShloMosaic.Lib.Tactic
public import proofs.«01_k».proof.Proof.Gen.KernelIdeal
public import proofs.«01_k».proof.Proof.Gen.KernelIdeal.Skeleton

@[expose] public section

noncomputable section

namespace Cert.KernelIdeal.Own

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.ShloMosaic.ShareLeaves (leaf pointsTo_leaves)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program and its resources -/

/-- The labels of @main's own calls: the two matmul pipelines. -/
abbrev ΛP : Labels := Pipeline.Sig Λ₀ (Fin 2) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshake semaphores are four distinct, unscoped ones, and no processor shares a buffer with another. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-- The handshakes' rounds, the pipelines' rounds, and the counters of the tiles' transfers. -/
abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

/-- The pipelines' rounds, the middle component of the algebra. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP : Emb UP 𝕄).LandsIn (upEmb : UEmb _ 𝕄) := by unfold EP; infer_instance

/-! ## Indices of the arrays -/

/-- Row `r`, column `c` of the table. -/
def ixTab (r : Fin 100000) (c : Fin 128) : S100000x128.Idx :=
  fun | 0 => r | 1 => c | ⟨_ + 2, h⟩ => absurd h (Nat.not_lt.2 (Nat.le_add_left _ _))
/-- Entry `r` of the row numbers. -/
def ixNum (r : Fin 51200) : S51200.Idx := fun | 0 => r | ⟨_ + 1, h⟩ => absurd h (Nat.not_lt.2 (Nat.le_add_left _ _))

/-- The array in which the words of `ib` name rows of `tb`: row `r` is row `ib r` of the table. -/
def gathered (tb : S100000x128.Idx → Elt F .f32) (ib : S51200.Idx → Elt F .i32) (h : ∀ j, (ib j).toNat < 100000) :
    S51200x128.Idx → Elt F .f32 :=
  fun y => tb (ixTab ⟨(ib (ixNum (y 0))).toNat, h _⟩ (y 1))

/-! ## The buffers, and the pieces of them a tile names -/

local notation "iV" => (Memref.whole Cert.KernelIdeal.main_v0_scv : Memref Cert.KernelIdeal.sig Kind.scVector Space.hbm Cert.KernelIdeal.S51200 EltTy.i32)
local notation "xV" => (Memref.whole Cert.KernelIdeal.main_arg1_scv : Memref Cert.KernelIdeal.sig Kind.scVector Space.hbm Cert.KernelIdeal.S100000x128 EltTy.f32)
local notation "oV" => (Memref.whole Cert.KernelIdeal.main_v1_scv : Memref Cert.KernelIdeal.sig Kind.scVector Space.hbm Cert.KernelIdeal.S51200x128 EltTy.f32)
local notation "sV" => (Memref.whole Cert.KernelIdeal.cc0_scratch0 : Memref Cert.KernelIdeal.sig Kind.scVector Space.vmem Cert.KernelIdeal.S1600 EltTy.i32)
local notation "rV" => (Memref.whole Cert.KernelIdeal.cc0_scratch1 : Memref Cert.KernelIdeal.sig Kind.scVector Space.vmem Cert.KernelIdeal.S400x128 EltTy.f32)

abbrev iLoc (d : Dev nD) : Loc nD τ sig := (SparseCore.T d).loc main_v0
abbrev xLoc (d : Dev nD) : Loc nD τ sig := (SparseCore.T d).loc main_arg1
abbrev oLoc (d : Dev nD) : Loc nD τ sig := (SparseCore.T d).loc main_v1

/-- The grid's point `(c, s)`. -/
def tileAt (c : Fin (grid0.bound 0)) (s : Fin (grid0.bound 1)) : grid0.Coords :=
  fun | 0 => c | 1 => s | ⟨_ + 2, h⟩ => absurd h (Nat.not_lt.2 (Nat.le_add_left _ _))

abbrev cV (L : grid0.Coords) : Fin τ.nSC := (L 0).castLE hcore0
abbrev jV (L : grid0.Coords) : Fin τ.nSub := (L 1).castLE hsub0
/-- The tile's thread. -/
abbrev vT (d : Dev nD) (L : grid0.Coords) : Thread nD τ := SparseCore.V d (cV L) (jV L)

/-- The tile's run of row numbers. -/
abbrev iRun (L : grid0.Coords) : Memref sig .scVector .hbm S1600 .i32 :=
  (iV).slice (Rect.unit (s := S51200) (k0_off1 L) S1600.size (k0_off1_inb L)) (fun _ => rfl)
/-- The rows of the result that the tile's trip `t` writes. -/
abbrev oRun (L : grid0.Coords) (t : Fin k0_t1_loop.trips) : Memref sig .scVector .hbm S400x128 .f32 :=
  (oV).slice (Rect.unit (s := S51200x128) (k0_off3 L t) S400x128.size (k0_off3_inb L t)) (fun _ => rfl)
/-- The row numbers trip `t` reads, in the tile's copy of them. -/
abbrev sRun (t : Fin k0_t1_loop.trips) : Memref sig .scVector .vmem S400 .i32 :=
  (sV).slice (Rect.unit (s := S1600) (k0_off2 t) S400.size (k0_off2_inb t)) (fun _ => rfl)
/-- The whole table, as the tile names it. -/
abbrev xAll : Memref sig .scVector .hbm S100000x128 .f32 :=
  (xV).slice (Rect.unit (s := S100000x128) ![0, 0] S100000x128.size inb_S100000x128_S100000x128_0_0) (fun _ => rfl)

abbrev iSet (L : grid0.Coords) : Finset S51200.Idx := (iRun L).view.set
abbrev oSet (L : grid0.Coords) (t : Fin k0_t1_loop.trips) : Finset S51200x128.Idx := (oRun L t).view.set

/-- The tile's number among the 32, which names its share of the table. -/
abbrev tileNo (L : grid0.Coords) : Fin (2 ^ 5) :=
  ⟨16 * (L 0).val + (L 1).val, by have h0 : (L 0).val < 2 := (L 0).isLt; have h1 : (L 1).val < 16 := (L 1).isLt; omega⟩
/-- The tile's share of the table. -/
abbrev xq (L : grid0.Coords) : PosShare TreeShare := leaf 5 fullShare (tileNo L)

/-! ## What a tile is handed and what it hands back -/

section Body

variable (d : Dev nD) (L : grid0.Coords)
variable (ib : Buf (Elt F) (iLoc d)) (tb : Buf (Elt F) (xLoc d)) (ob : Buf (Elt F) (oLoc d)) (hib : ∀ j, (ib j).toNat < 100000)

/-- What the tile is handed: its row numbers, its share of the table, its rows of the result. -/
def tileIn : sProp 𝕄 :=
  iprop((iLoc d ↦[iSet L]{fullShare} ib) ∗ (xLoc d ↦{xq L} tb) ∗ bigSep Finset.univ fun t : Fin k0_t1_loop.trips => oLoc d ↦[oSet L t]{fullShare} ob)

/-- What it hands back: the same, its rows of the result now the table's rows its numbers name. -/
def tileOut : sProp 𝕄 :=
  iprop((iLoc d ↦[iSet L]{fullShare} ib) ∗ (xLoc d ↦{xq L} tb)
    ∗ bigSep Finset.univ fun t : Fin k0_t1_loop.trips => oLoc d ↦[oSet L t]{fullShare} gathered tb ib hib)

instance tileIn_storable : BI.Storable (upEmb : UEmb _ 𝕄) (tileIn d L ib tb ob) := by unfold tileIn; infer_instance
instance tileOut_storable : BI.Storable (upEmb : UEmb _ 𝕄) (tileOut d L ib tb hib) := by unfold tileOut; infer_instance

/-- The tile's copy of its row numbers. -/
def numsOf : S1600.Idx → Elt F .i32 := (iRun L).view.read (Elt F) ib

abbrev cFetch : GSem nD τ sig := (vT d L, .dma cc0_scoped0.sem)
abbrev cStore : GSem nD τ sig := (vT d L, .dma cc0_scoped1.sem)
abbrev cGather : GSem nD τ sig := (vT d L, .dma cc0_scratch2.sem)

/-- The tile's three transfer semaphores among its own, and the rest. -/
theorem sems_tile :
    (ownSems0 (vT d L) : sProp 𝕄)
      = iprop(semVal (cFetch d L) 0 ∗ semVal (cStore d L) 0 ∗ semVal (cGather d L) 0
          ∗ bigSep ((((ownCells (vT d L)).erase (cFetch d L)).erase (cStore d L)).erase (cGather d L)) fun g => semVal g 0) := by
  unfold SparseCore.Cfg.ownSems0
  have m1 : cFetch d L ∈ ownCells (vT d L) := mem_ownCells.mpr ⟨rfl, show (SemLoc.dma cc0_scoped0.sem : SemLoc sig).isScoped .scVector = true by decide⟩
  have m2 : cStore d L ∈ ownCells (vT d L) := mem_ownCells.mpr ⟨rfl, show (SemLoc.dma cc0_scoped1.sem : SemLoc sig).isScoped .scVector = true by decide⟩
  have m3 : cGather d L ∈ ownCells (vT d L) := mem_ownCells.mpr ⟨rfl, show (SemLoc.dma cc0_scratch2.sem : SemLoc sig).isScoped .scVector = true by decide⟩
  have n21 : cStore d L ≠ cFetch d L := by simp [cStore, cFetch]; decide
  have n31 : cGather d L ≠ cFetch d L := by simp [cGather, cFetch]; decide
  have n32 : cGather d L ≠ cStore d L := by simp [cGather, cStore]; decide
  rw [SparseCore.bigSep_erase' m1, SparseCore.bigSep_erase' (Finset.mem_erase.mpr ⟨n21, m2⟩),
    SparseCore.bigSep_erase' (Finset.mem_erase.mpr ⟨n32, Finset.mem_erase.mpr ⟨n31, m3⟩⟩)]

/-- The tile's two buffers among its own, each at some contents, and the rest. -/
theorem bufs_tile :
    (ownBufs (vT d L) : sProp 𝕄)
      = iprop((∃ f, (vT d L).loc cc0_scratch0 ↦{fullShare} f) ∗ (∃ f, (vT d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  have m0 := SparseCore.Cfg.mem_ownRefs_of_owner (p := Proc.scVector (cV L) (jV L)) (b := (Proc.scVector (cV L) (jV L)).devRef cc0_scratch0) rfl
  have m1 := SparseCore.Cfg.mem_ownRefs_of_owner (p := Proc.scVector (cV L) (jV L)) (b := (Proc.scVector (cV L) (jV L)).devRef cc0_scratch1) rfl
  refine (SparseCore.bigSep_erase' m0).trans ?_
  rw [SparseCore.bigSep_erase' (Finset.mem_erase.mpr
    ⟨fun e => absurd (Proc.devRef_injective _ e) (show (cc0_scratch1 : Ref sig .scVector) ≠ cc0_scratch0 by decide), m1⟩)]

/-- The words the gather reads as row numbers name rows of the table. -/
theorem nums_lt (hib : ∀ j, (ib j).toNat < 100000) (t : Fin k0_t1_loop.trips) (x : S400.Idx) :
    ((sRun t).view.read (Elt F) (numsOf d L ib) x).toNat < S100000x128.size gathers_S100000x128_S400x128.axis := by
  rw [show (sRun t).view.read (Elt F) (numsOf d L ib) x = ib ((iRun L).view.emb ((sRun t).view.emb x)) from
    ((View.read_apply _ _).trans (cast_eq _ _)).trans ((View.read_apply _ _).trans (cast_eq _ _))]
  exact hib _

/-- What trip `t` copies out is the rows the tile's numbers name: element `x` of the 400 gathered rows lands where the
    gathered array holds that very value. -/
theorem trip_value (hib : ∀ j, (ib j).toNat < 100000) (t : Fin k0_t1_loop.trips)
    (hin : ∀ x, ((sRun t).view.read (Elt F) (numsOf d L ib) x).toNat < S100000x128.size gathers_S100000x128_S400x128.axis)
    (x : S400x128.Idx) :
    SparseCore.gatherPayload gathers_S100000x128_S400x128 ((xAll).view.read (Elt F) tb)
        (SparseCore.rows ((sRun t).view.read (Elt F) (numsOf d L ib)) rfl hin) x
      = gathered tb ib hib ((oRun L t).view.emb x) := by
  have key : ∀ k : Fin S400.numel, (S400.rowMajor.symm k 0).val = k.val := fun k =>
    (Shape.rowMajor_val_one (S400.rowMajor.symm k)).symm.trans (congrArg Fin.val (S400.rowMajor.apply_symm_apply k))
  have e1 : k0_off1 L 0 = 3200 * (L 1).val + 1600 * (L 0).val := congrFun (k0_off1_eq L) 0
  have e2 : k0_off2 t 0 = 400 * t.val := congrFun (k0_off2_eq t) 0
  have e3 : k0_off3 L t 0 = 3200 * (L 1).val + 1600 * (L 0).val + 400 * t.val := congrFun (k0_off3_eq L t) 0
  have e4 : k0_off3 L t 1 = 0 := congrFun (k0_off3_eq L t) 1
  unfold SparseCore.gatherPayload gathered
  refine ((View.read_apply _ _).trans (cast_eq _ _)).trans (congrArg tb (funext fun a => Fin.ext ?_))
  refine (ValueKit.view_emb_slice_whole_unit_val main_arg1_scv _ _ _ _ a).trans ?_
  match a with
  | 0 =>
    have h0 : gathers_S100000x128_S400x128.idx (SparseCore.rows ((sRun t).view.read (Elt F) (numsOf d L ib)) rfl hin) x 0 = _ :=
      Shape.Gathers.idx_axis gathers_S100000x128_S400x128 (SparseCore.rows ((sRun t).view.read (Elt F) (numsOf d L ib)) rfl hin) x
    show 0 + _ = _
    rw [h0, Nat.zero_add]
    show (((sRun t).view.read (Elt F) (numsOf d L ib) (S400.rowMajor.symm _)).toNat) = (ib _).toNat
    rw [show ∀ z, (sRun t).view.read (Elt F) (numsOf d L ib) z = ib ((iRun L).view.emb ((sRun t).view.emb z)) from fun z =>
      ((View.read_apply _ _).trans (cast_eq _ _)).trans ((View.read_apply _ _).trans (cast_eq _ _))]
    refine congrArg (fun j => (ib j).toNat) (funext fun b => Fin.ext ?_)
    match b with
    | 0 =>
      refine (ValueKit.view_emb_slice_whole_unit_val main_v0_scv _ _ _ _ 0).trans ?_
      refine (congrArg (_ + ·) (ValueKit.view_emb_slice_whole_unit_val cc0_scratch0 _ _ _ _ 0)).trans ?_
      refine Eq.trans ?_ (ValueKit.view_emb_slice_whole_unit_val main_v1_scv _ _ (k0_off3_inb L t) x 0).symm
      rw [key]
      show k0_off1 L 0 + (k0_off2 t 0 + (x 0).val) = k0_off3 L t 0 + (x 0).val
      omega
  | 1 =>
    have h1 := Shape.Gathers.idx_of_ne gathers_S100000x128_S400x128 (SparseCore.rows ((sRun t).view.read (Elt F) (numsOf d L ib)) rfl hin) x 1 (by decide)
    show 0 + _ = _
    refine (Nat.zero_add _).trans (h1.trans ?_)
    refine Eq.trans ?_ (ValueKit.view_emb_slice_whole_unit_val main_v1_scv _ _ (k0_off3_inb L t) x 1).symm
    show (x 1).val = k0_off3 L t 1 + (x 1).val
    omega

/-- A run of the result written with a payload holds, on its own elements, any array that agrees with the payload there. -/
theorem run_written (t : Fin k0_t1_loop.trips) (f g : Buf (Elt F) (oLoc d)) (p : S400x128.Idx → Elt F .f32)
    (h : ∀ x, p x = g ((oRun L t).view.emb x)) :
    ((oRun L t).view.loc (vT d L) ↦[(oRun L t).view.set]{fullShare} (oRun L t).view.writes (Elt F) f [⟨Rect.whole S400x128, p⟩] : sProp 𝕄)
      = ((oRun L t).view.loc (vT d L) ↦[(oRun L t).view.set]{fullShare} g) := by
  refine pointsTo_congr fun y hy => ?_
  obtain ⟨x, rfl⟩ := View.exists_emb_of_mem_set (oRun L t).view hy
  refine Eq.trans ?_ (h x)
  exact ((View.read_apply _ _).trans (cast_eq _ _)).symm.trans (congrFun (View.read_writes_whole (oRun L t).view f p) x)

variable [FloatOps F]

/-- Before trip `n`: the row numbers in the tile's copy, the table's share, the row buffer at anything, the rows of
    the trips done at their value and the others as they were, the semaphores at zero. -/
def inv (O : CellTallies nD τ sig (HIx 1)) (W : Waits sig (HIx 1)) (n : ℕ) (_ : Unit) : sProp 𝕄 :=
  iprop(Transfers.MayWaits (vT d L) (default : HIx 1) O
    ∗ ((xV).view.loc (vT d L) ↦{xq L} tb)
    ∗ ((sV).view.loc (vT d L) ↦{fullShare} numsOf d L ib)
    ∗ (∃ f, (rV).view.loc (vT d L) ↦{fullShare} f)
    ∗ (bigSep Finset.univ fun t : Fin k0_t1_loop.trips =>
        (oRun L t).view.loc (vT d L) ↦[(oRun L t).view.set]{fullShare} (if t.val < n then gathered tb ib hib else ob))
    ∗ semVal (cStore d L) 0 ∗ semVal (cGather d L) 0
    ∗ ∃ W', ⌜∀ p ∈ W', p ∈ W ∨ p.2 = none⌝ ∗ owes (vT d L) O W')

set_option maxHeartbeats 4000000 in
theorem tile_body (hF : (K (F := F)).Facts) (O : CellTallies nD τ sig (HIx 1)) (W : Waits sig (HIx 1)) (hO : ∀ g, O g none = 0) :
    iprop(levAts (K (F := F)).L (K (F := F)).lev ∗ emp ∗ tileIn d L ib tb ob
        ∗ scopedBufs (vT d L) ∗ scopedSems0 (vT d L) ∗ owes (vT d L) O W)
      ⊢ wp frame (wpE (defs₀ (F := F)) 𝒱₀ (vT d L) none) Set.univ
          (cc0_gather_kernel L xV (Memref.isWhole_whole _) iV (Memref.isWhole_whole _) oV (Memref.isWhole_whole _)
            sV (Memref.isWhole_whole _) rV (Memref.isWhole_whole _) cc0_scratch2 cc0_scoped0 cc0_scoped1)
          fun _ => iprop(tileOut d L ib tb hib ∗ scopedBufs (vT d L) ∗ scopedSems0 (vT d L)
            ∗ ∃ W', ⌜∀ p ∈ W', p ∈ W ∨ p.2 = none⌝ ∗ owes (vT d L) O W') := by
  simp only [cc0_gather_kernel_eq_skeleton]; unfold cc0_gather_kernel_skel tileIn tileOut
  rw [(K (F := F)).scopedBufs_V hF d (cV L) (jV L), SparseCore.Cfg.scopedSems0_V (Val := Elt F) d (cV L) (jV L), sems_tile, bufs_tile]
  iintro ⟨#Hlv, -, ⟨Hi, Hx, Ho⟩, ⟨⟨%fs, Hs⟩, ⟨%fr, Hr⟩, Hbufs⟩, ⟨HsF, HsS, HsG, Hsems⟩, HO⟩
  ihave Hmw := (show levAts (K (F := F)).L (K (F := F)).lev ⊢ Transfers.MayWaits (vT d L) (default : HIx 1) O from
    (K (F := F)).mayWaits_none (thr := vT d L) hO) $$ Hlv
  ihave Hi' := (show (iLoc d ↦[iSet L]{fullShare} ib : sProp 𝕄) ⊢ (iRun L).view.loc (vT d L) ↦[(iRun L).view.set]{fullShare} ib from BI.Entails.refl _) $$ Hi
  ihave Hx' := (show (xLoc d ↦{xq L} tb : sProp 𝕄) ⊢ (xV).view.loc (vT d L) ↦{xq L} tb from BI.Entails.refl _) $$ Hx
  ihave Hs' := (show ((vT d L).loc cc0_scratch0 ↦{fullShare} fs : sProp 𝕄) ⊢ (sV).view.loc (vT d L) ↦{fullShare} fs from BI.Entails.refl _) $$ Hs
  ihave Hr' := (show ((vT d L).loc cc0_scratch1 ↦{fullShare} fr : sProp 𝕄) ⊢ (rV).view.loc (vT d L) ↦{fullShare} fr from BI.Entails.refl _) $$ Hr
  sl_exec
  ihave Hs2 := (show ((sV).view.loc (vT d L) ↦{fullShare} View.write (Elt F) (sV).view fs (tile_body.sl.dma0 d L ib) Finset.univ : sProp 𝕄)
      ⊢ (sV).view.loc (vT d L) ↦{fullShare} numsOf d L ib from Entails.of_eq (by rw [View.write_whole_univ]; rfl)) $$ Hs'
  sl_for (inv d L ib tb ob hib O W) $$ [Hmw Hx' Hs2 Hr' Ho HsS HsG HO]
  case region =>
    intro t _
    have hin : ∀ x, ((sRun t).view.read (Elt F) (numsOf d L ib) x).toNat < S100000x128.size gathers_S100000x128_S400x128.axis :=
      nums_lt d L ib hib t
    unfold inv
    rw [SparseCore.bigSep_erase' (Finset.mem_univ t)]
    iintro ⟨#Hmw, Hx, Hs, ⟨%fr, Hr⟩, ⟨Hot, Ho⟩, HsS, HsG, %W', %hW', HO⟩
    sl_exec
    sl_step
    have hp : ∀ x, tile_body.sl.dma0_1 d L ib tb t hin fr x = gathered tb ib hib ((oRun L t).view.emb x) := fun x =>
      (congrFun (View.read_writes_whole (rV).view fr _) x).trans (trip_value d L ib tb hib t hin x)
    ihave Hot2 := (Entails.of_eq (run_written d L t _ (gathered tb ib hib) _ hp)) $$ Hot
    isplitr; · iexact Hmw
    isplitl [Hx]; · iexact Hx
    isplitl [Hs]; · iexact Hs
    isplitl [Hr]; · iexists _; iexact Hr
    isplitl [Hot2 Ho]
    · rw [SparseCore.bigSep_erase' (Finset.mem_univ t), if_pos (Nat.lt_succ_self t.val)]
      isplitl [Hot2]; · iexact Hot2
      rw [show (bigSep (Finset.univ.erase t) fun u : Fin k0_t1_loop.trips => ((oRun L u).view.loc (vT d L) ↦[(oRun L u).view.set]{fullShare}
            (if u.val < t.val + 1 then gathered tb ib hib else ob) : sProp 𝕄))
          = bigSep (Finset.univ.erase t) fun u : Fin k0_t1_loop.trips => ((oRun L u).view.loc (vT d L) ↦[(oRun L u).view.set]{fullShare}
            (if u.val < t.val then gathered tb ib hib else ob) : sProp 𝕄) from
        bigSep_congr fun u hu => by
          have hne : u.val ≠ t.val := fun e => (Finset.mem_erase.mp hu).1 (Fin.ext e)
          by_cases h : u.val < t.val
          · rw [if_pos h, if_pos (Nat.lt_succ_of_lt h)]
          · rw [if_neg h, if_neg (by omega)]]
      iexact Ho
    isplitl [HsS]; · iexact HsS
    isplitl [HsG]; · iexact HsG
    iexists _; isplitr
    swap; · iexact HO
    ipureintro; intro p hp
    rcases Finset.mem_insert.mp hp with hp | hp; · exact .inr (hp ▸ rfl)
    rcases Finset.mem_insert.mp hp with hp | hp; · exact .inr (hp ▸ rfl)
    exact hW' p hp
  · unfold inv
    isplitr; · iexact Hmw
    isplitl [Hx']; · iexact Hx'
    isplitl [Hs2]; · iexact Hs2
    isplitl [Hr']; · iexists _; iexact Hr'
    isplitl [Ho]; · iexact Ho
    isplitl [HsS]; · iexact HsS
    isplitl [HsG]; · iexact HsG
    iexists _; isplitr
    swap; · iexact HO
    ipureintro; intro p hp
    rcases Finset.mem_insert.mp hp with hp | hp; · exact .inr (hp ▸ rfl)
    exact .inl hp
  iintro %_ HI
  unfold inv
  icases HI with ⟨-, Hx, Hs, ⟨%fr', Hr⟩, Ho, HsS, HsG, %W', %hW', HO⟩
  sl_step
  isplitl [Hi' Hx Ho]
  · isplitl [Hi']; · iexact Hi'
    isplitl [Hx]; · iexact Hx
    iapply (Entails.of_eq (show (bigSep Finset.univ fun u : Fin k0_t1_loop.trips => ((oRun L u).view.loc (vT d L) ↦[(oRun L u).view.set]{fullShare}
          (if u.val < k0_t1_loop.trips then gathered tb ib hib else ob) : sProp 𝕄))
        = bigSep Finset.univ fun u : Fin k0_t1_loop.trips => (oLoc d ↦[oSet L u]{fullShare} gathered tb ib hib : sProp 𝕄) from
      bigSep_congr fun u _ => by rw [if_pos u.isLt]))
    iexact Ho
  isplitl [Hs Hr Hbufs]
  · isplitl [Hs]; · iexists _; iexact Hs
    isplitl [Hr]; · iexists _; iexact Hr
    iexact Hbufs
  isplitl [HsF HsS HsG Hsems]
  · isplitl [HsF]; · iexact HsF
    isplitl [HsS]; · iexact HsS
    isplitl [HsG]; · iexact HsG
    iexact Hsems
  iexists _; isplitr
  swap; · iexact HO
  ipureintro; exact hW'

end Body

end Cert.KernelIdeal.Own

end
-- ==== Proof.KernelIdeal.Call.lean ====
/-
  The SparseCore call of `KernelIdeal` as @main sees it: what the call's 32 tasks are handed and hand back, and that the
  row numbers, the table and the result, each whole, are the 32 tiles' pieces of them.
-/
module

public import proofs.«01_k».proof.Proof.KernelIdeal.Tile

@[expose] public section

noncomputable section

namespace Cert.KernelIdeal.Own

open Cert.KernelIdeal Cert.KernelIdeal.Gen

open Idealize.ShloMosaic
open Idealize.ShloMosaic.SparseCore (S V T)
open Idealize.ShloMosaic.SparseCore.Cfg (HIx Pay)
open Idealize.ShloMosaic.ShareLeaves (leaf pointsTo_leaves)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## What the handshakes carry -/

/-- The tile that task `i` of SparseCore `c` runs on. -/
abbrev tile (c : Fin 2) (i : Fin 16) : grid0.Coords := tileAt c i

variable (ib : (d : Dev nD) → Buf (Elt F) (iLoc d)) (tb : (d : Dev nD) → Buf (Elt F) (xLoc d)) (ob : (d : Dev nD) → Buf (Elt F) (oLoc d))
variable (hib : ∀ d j, (ib d j).toNat < 100000)

/-- A SparseCore takes its sixteen tiles' pieces and brings them back; a tile takes its own. -/
def P : (K (F := F)).Pay (nD := nD) (Val := Elt F) (Name := ℕ) (U := UU) where
  st := fun q d c => match q with | 0 => bigSep Finset.univ fun i : Fin 16 => tileIn d (tile ⟨c.val, c.isLt⟩ i) (ib d) (tb d) (ob d)
  dn := fun q d c => match q with | 0 => bigSep Finset.univ fun i : Fin 16 => tileOut d (tile ⟨c.val, c.isLt⟩ i) (ib d) (tb d) (hib d)
  go := fun q d c i => match q with | 0 => tileIn d (tile ⟨c.val, c.isLt⟩ ⟨i.val, i.isLt⟩) (ib d) (tb d) (ob d)
  td := fun q d c i => match q with | 0 => tileOut d (tile ⟨c.val, c.isLt⟩ ⟨i.val, i.isLt⟩) (ib d) (tb d) (hib d)
  x := fun _ _ => iprop(emp)

instance P_storable : (P (F := F) ib tb ob hib).IsStorable where
  st q d c := match q with
    | 0 => (inferInstance : BI.Storable (upEmb : UEmb _ 𝕄) (bigSep Finset.univ fun i : Fin 16 => tileIn d (tile ⟨c.val, c.isLt⟩ i) (ib d) (tb d) (ob d)))
  dn q d c := match q with
    | 0 => (inferInstance : BI.Storable (upEmb : UEmb _ 𝕄) (bigSep Finset.univ fun i : Fin 16 => tileOut d (tile ⟨c.val, c.isLt⟩ i) (ib d) (tb d) (hib d)))
  go q d c i := match q with
    | 0 => (inferInstance : BI.Storable (upEmb : UEmb _ 𝕄) (tileIn d (tile ⟨c.val, c.isLt⟩ ⟨i.val, i.isLt⟩) (ib d) (tb d) (ob d)))
  td q d c i := match q with
    | 0 => (inferInstance : BI.Storable (upEmb : UEmb _ 𝕄) (tileOut d (tile ⟨c.val, c.isLt⟩ ⟨i.val, i.isLt⟩) (ib d) (tb d) (hib d)))

/-- A SparseCore's pieces are its tiles' pieces, both ways. -/
theorem vecSplit : (K (F := F)).VecSplit' (P ib tb ob hib) 0 := by
  intro d c
  show (bigSep Finset.univ fun i : Fin 16 => tileIn d (tile ⟨c.val, c.isLt⟩ i) (ib d) (tb d) (ob d) : sProp 𝕄) ⊢ |={Set.univ}=> iprop(
      (bigSep Finset.univ fun i : Fin 16 => tileIn d (tile ⟨c.val, c.isLt⟩ i) (ib d) (tb d) (ob d))
      ∗ ((bigSep Finset.univ fun i : Fin 16 => tileOut d (tile ⟨c.val, c.isLt⟩ i) (ib d) (tb d) (hib d))
          -∗ bigSep Finset.univ fun i : Fin 16 => tileOut d (tile ⟨c.val, c.isLt⟩ i) (ib d) (tb d) (hib d)))
  iintro H; imodintro
  isplitl [H]; · iexact H
  iintro H; iexact H

/-! ## The task's obligation -/

section Obl

variable [FloatOps F]

/-- The waits a task leaves may be recorded as its call's. -/
theorem waits_weaken {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem kernel_on_tile (c : Fin τ.nSC) (s : Fin τ.nSub) :
    defs₀ (F := F) (.scVector c s) 0 ()
      = SparseCore.onTile hcore0 hsub0 (fun c s => cc0_gather_kernel (tileAt c s)
          (Memref.whole main_arg1_scv) (Memref.isWhole_whole _) (Memref.whole main_v0_scv) (Memref.isWhole_whole _)
          (Memref.whole main_v1_scv) (Memref.isWhole_whole _) (Memref.whole cc0_scratch0) (Memref.isWhole_whole _)
          (Memref.whole cc0_scratch1) (Memref.isWhole_whole _) cc0_scratch2 cc0_scoped0 cc0_scoped1) ⟨⟩ c s := rfl

set_option maxRecDepth 16384 in
/-- Each task of the call, from its pieces, ends with them back at the gathered value. -/
theorem tileObl (hF : (K (F := F)).Facts) : (K (F := F)).TileObl (D (F := F)) 𝒱 (P ib tb ob hib) v₀ 0 := by
  intro d c i O W hO _ _
  simp only [show (P ib tb ob hib).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [kernel_on_tile]; simp only [SparseCore.onTile, hci, and_self, ↓reduceDIte]
  exact (tile_body d (tileAt ⟨_, hci.1⟩ ⟨_, hci.2⟩) (ib d) (tb d) (ob d) (hib d) hF O W hO).trans (wp_mono frame _ _ fun _ => waits_weaken)

end Obl

/-! ## The whole arrays as the tiles' pieces -/

theorem mem_iSet (L : grid0.Coords) (y : S51200.Idx) :
    y ∈ iSet L ↔ 3200 * (L 1).val + 1600 * (L 0).val ≤ (y 0).val ∧ (y 0).val < 3200 * (L 1).val + 1600 * (L 0).val + 1600 := by
  have e : k0_off1 L 0 = 3200 * (L 1).val + 1600 * (L 0).val := congrFun (k0_off1_eq L) 0
  refine (ValueKit.mem_set_slice_whole_iff main_v0_scv _ y Rect.mem_set_unit).trans ?_
  constructor
  · intro h
    have h0 : k0_off1 L 0 ≤ (y 0).val ∧ (y 0).val < k0_off1 L 0 + 1600 := h 0
    omega
  · intro h a
    match a with
    | 0 => show k0_off1 L 0 ≤ (y 0).val ∧ (y 0).val < k0_off1 L 0 + 1600; omega

theorem mem_oSet (L : grid0.Coords) (t : Fin k0_t1_loop.trips) (y : S51200x128.Idx) :
    y ∈ oSet L t ↔ 3200 * (L 1).val + 1600 * (L 0).val + 400 * t.val ≤ (y 0).val
      ∧ (y 0).val < 3200 * (L 1).val + 1600 * (L 0).val + 400 * t.val + 400 := by
  have e : k0_off3 L t 0 = 3200 * (L 1).val + 1600 * (L 0).val + 400 * t.val := congrFun (k0_off3_eq L t) 0
  have e' : k0_off3 L t 1 = 0 := congrFun (k0_off3_eq L t) 1
  refine (ValueKit.mem_set_slice_whole_iff main_v1_scv _ y Rect.mem_set_unit).trans ?_
  constructor
  · intro h
    have h0 : k0_off3 L t 0 ≤ (y 0).val ∧ (y 0).val < k0_off3 L t 0 + 400 := h 0
    omega
  · intro h a
    match a with
    | 0 => show k0_off3 L t 0 ≤ (y 0).val ∧ (y 0).val < k0_off3 L t 0 + 400; omega
    | 1 =>
      have := (y 1).isLt
      show k0_off3 L t 1 ≤ (y 1).val ∧ (y 1).val < k0_off3 L t 1 + 128
      have h1 : (y 1).val < 128 := (y 1).isLt
      omega

theorem trips_four : k0_t1_loop.trips = 4 := by decide

theorem nums_cover : (Finset.univ : Finset S51200.Idx) = Finset.univ.biUnion fun p : Fin 2 × Fin 16 => iSet (tile p.1 p.2) := by
  refine (Finset.eq_univ_iff_forall.mpr fun (y : S51200.Idx) => ?_).symm
  have hy : (y 0).val < 51200 := (y 0).isLt
  refine Finset.mem_biUnion.mpr ⟨(⟨(y 0).val / 1600 % 2, by omega⟩, ⟨(y 0).val / 3200, by omega⟩), Finset.mem_univ _, ?_⟩
  rw [mem_iSet]
  show 3200 * ((y 0).val / 3200) + 1600 * ((y 0).val / 1600 % 2) ≤ _ ∧ _ < 3200 * ((y 0).val / 3200) + 1600 * ((y 0).val / 1600 % 2) + 1600
  omega

theorem nums_apart (p : Fin 2 × Fin 16) (p' : Fin 2 × Fin 16) (hne : p ≠ p') : Disjoint (iSet (tile p.1 p.2)) (iSet (tile p'.1 p'.2)) := by
  obtain ⟨c, s⟩ := p; obtain ⟨c', s'⟩ := p'
  refine Finset.disjoint_left.mpr fun (y : S51200.Idx) h h' => ?_
  replace h : 3200 * s.val + 1600 * c.val ≤ (y 0).val ∧ (y 0).val < 3200 * s.val + 1600 * c.val + 1600 := (mem_iSet _ y).mp h
  replace h' : 3200 * s'.val + 1600 * c'.val ≤ (y 0).val ∧ (y 0).val < 3200 * s'.val + 1600 * c'.val + 1600 := (mem_iSet _ y).mp h'
  have := c.isLt; have := c'.isLt
  exact hne (Prod.ext (Fin.ext (show c.val = c'.val by omega)) (Fin.ext (show s.val = s'.val by omega)))

/-- The row numbers whole are the tiles' pieces of them. -/
theorem nums_split (d : Dev nD) (f : Buf (Elt F) (iLoc d)) :
    (iLoc d ↦{fullShare} f : sProp 𝕄)
      = bigSep Finset.univ fun c : Fin 2 => bigSep Finset.univ fun s : Fin 16 => iLoc d ↦[iSet (tile c s)]{fullShare} f :=
  (congrArg (fun I : Finset S51200.Idx => (iLoc d ↦[I]{fullShare} f : sProp 𝕄)) nums_cover).trans
    ((pointsTo_biUnion Finset.univ (ℓ := iLoc d) (fun p : Fin 2 × Fin 16 => iSet (tile p.1 p.2))
      fun p _ p' _ => nums_apart p p').trans
      (bigSep_univ_prod (fun p : Fin 2 × Fin 16 => (iLoc d ↦[iSet (tile p.1 p.2)]{fullShare} f : sProp 𝕄))))

/-- A tile and one of its trips. -/
abbrev TripIx : Type := Fin 2 × Fin 16 × Fin k0_t1_loop.trips

theorem result_cover : (Finset.univ : Finset S51200x128.Idx) = Finset.univ.biUnion fun p : TripIx => oSet (tile p.1 p.2.1) p.2.2 := by
  refine (Finset.eq_univ_iff_forall.mpr fun (y : S51200x128.Idx) => ?_).symm
  have hy : (y 0).val < 51200 := (y 0).isLt
  refine Finset.mem_biUnion.mpr ⟨(⟨(y 0).val / 1600 % 2, by omega⟩, ⟨(y 0).val / 3200, by omega⟩,
    ⟨(y 0).val / 400 % 4, lt_of_lt_of_eq (by omega) trips_four.symm⟩), Finset.mem_univ _, ?_⟩
  rw [mem_oSet]
  show 3200 * ((y 0).val / 3200) + 1600 * ((y 0).val / 1600 % 2) + 400 * ((y 0).val / 400 % 4) ≤ _
    ∧ _ < 3200 * ((y 0).val / 3200) + 1600 * ((y 0).val / 1600 % 2) + 400 * ((y 0).val / 400 % 4) + 400
  omega

theorem result_apart (p p' : TripIx) (hne : p ≠ p') : Disjoint (oSet (tile p.1 p.2.1) p.2.2) (oSet (tile p'.1 p'.2.1) p'.2.2) := by
  obtain ⟨c, s, t⟩ := p; obtain ⟨c', s', t'⟩ := p'
  refine Finset.disjoint_left.mpr fun (y : S51200x128.Idx) h h' => ?_
  replace h : 3200 * s.val + 1600 * c.val + 400 * t.val ≤ (y 0).val ∧ (y 0).val < 3200 * s.val + 1600 * c.val + 400 * t.val + 400 :=
    (mem_oSet _ _ y).mp h
  replace h' : 3200 * s'.val + 1600 * c'.val + 400 * t'.val ≤ (y 0).val
      ∧ (y 0).val < 3200 * s'.val + 1600 * c'.val + 400 * t'.val + 400 := (mem_oSet _ _ y).mp h'
  have := c.isLt; have := c'.isLt
  have ht : t.val < 4 := lt_of_lt_of_eq t.isLt trips_four
  have ht' : t'.val < 4 := lt_of_lt_of_eq t'.isLt trips_four
  exact hne (Prod.ext (Fin.ext (show c.val = c'.val by omega))
    (Prod.ext (Fin.ext (show s.val = s'.val by omega)) (Fin.ext (show t.val = t'.val by omega))))

/-- The result whole is the tiles' trips' pieces of it. -/
theorem result_split (d : Dev nD) (f : Buf (Elt F) (oLoc d)) :
    (oLoc d ↦{fullShare} f : sProp 𝕄)
      = bigSep Finset.univ fun c : Fin 2 => bigSep Finset.univ fun s : Fin 16 => bigSep Finset.univ fun t : Fin k0_t1_loop.trips =>
          oLoc d ↦[oSet (tile c s) t]{fullShare} f :=
  (congrArg (fun I : Finset S51200x128.Idx => (oLoc d ↦[I]{fullShare} f : sProp 𝕄)) result_cover).trans
    ((pointsTo_biUnion Finset.univ (ℓ := oLoc d) (fun p : TripIx => oSet (tile p.1 p.2.1) p.2.2)
      fun p _ p' _ => result_apart p p').trans
      ((bigSep_univ_prod (fun p : TripIx => (oLoc d ↦[oSet (tile p.1 p.2.1) p.2.2]{fullShare} f : sProp 𝕄))).trans
        (bigSep_congr fun c _ => bigSep_univ_prod
          (fun p : Fin 16 × Fin k0_t1_loop.trips => (oLoc d ↦[oSet (tile c p.1) p.2]{fullShare} f : sProp 𝕄)))))

/-- The table at the full share is the tiles' shares of it. -/
theorem table_split (d : Dev nD) (f : Buf (Elt F) (xLoc d)) :
    (xLoc d ↦{fullShare} f : sProp 𝕄)
      = bigSep Finset.univ fun c : Fin 2 => bigSep Finset.univ fun s : Fin 16 => xLoc d ↦{xq (tile c s)} f := by
  rw [pointsTo_leaves Finset.univ f 5 fullShare,
    bigSep_univ_equiv (finProdFinEquiv (m := 2) (n := 16)) (fun i : Fin (2 ^ 5) => (xLoc d ↦{leaf 5 fullShare i} f : sProp 𝕄)),
    bigSep_univ_prod]
  refine bigSep_congr fun c _ => bigSep_congr fun s _ => ?_
  have e : (finProdFinEquiv (m := 2) (n := 16) (c, s) : Fin (2 ^ 5)) = tileNo (tile c s) :=
    Fin.ext (show s.val + 16 * c.val = 16 * c.val + s.val by omega)
  rw [e]

/-- The three arrays whole are the two SparseCores' pieces before the call. -/
theorem call_in (d : Dev nD) :
    (bigSep Finset.univ fun c : Fin ((K (F := F)).nCore 0) => (P ib tb ob hib).st 0 d c)
      = iprop((iLoc d ↦{fullShare} ib d) ∗ (xLoc d ↦{fullShare} tb d) ∗ oLoc d ↦{fullShare} ob d : sProp 𝕄) := by
  rw [nums_split, table_split, result_split, ← bigSep_sep', ← bigSep_sep']
  refine bigSep_congr fun (c : Fin 2) _ => ?_
  rw [← bigSep_sep', ← bigSep_sep']
  rfl

/-- The two SparseCores' pieces after the call are the three arrays whole, the result at the gathered value. -/
theorem call_out (d : Dev nD) :
    (bigSep Finset.univ fun c : Fin ((K (F := F)).nCore 0) => (P ib tb ob hib).dn 0 d c)
      = iprop((iLoc d ↦{fullShare} ib d) ∗ (xLoc d ↦{fullShare} tb d) ∗ oLoc d ↦{fullShare} gathered (tb d) (ib d) (hib d) : sProp 𝕄) := by
  rw [nums_split, table_split, result_split, ← bigSep_sep', ← bigSep_sep']
  refine bigSep_congr fun (c : Fin 2) _ => ?_
  rw [← bigSep_sep', ← bigSep_sep']
  rfl

end Cert.KernelIdeal.Own

end
-- ==== Proof.KernelIdeal.Mm1.lean ====
/-
  The matrix product of custom_call 1 of `KernelIdeal` on its grid (2 column blocks by 10 steps of the contraction): what
  the carried scratch holds after each point, what is stored into the result's block at a column block's last step, and
  the pipeline's obligation of the body at every point, from any contents of the arrays at the call.
-/
module

public import proofs.«01_k».proof.Proof.KernelIdeal.Tile
public import proofs.«01_k».proof.Proof.Gen.KernelIdeal.Launch
public import proofs.«01_k».proof.Proof.Gen.KernelIdeal.Points
public import Idealize.ShloMosaic.Lib.Pipeline.FrameBody
public import Idealize.ShloMosaic.Lib.Pipeline.ReadBack
public import Idealize.ShloMosaic.Lib.Pipeline.Regions
public import Idealize.ShloMosaic.Lib.WordCmp
public import Idealize.ShloMosaic.Lib.WritesUnit

@[expose] public section

set_option maxRecDepth 16384

noncomputable section

namespace Cert.KernelIdeal.Own.Mm1

open Cert.KernelIdeal Cert.KernelIdeal.Gen Cert.KernelIdeal.Own

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat)

variable {F : FTy → Type} [FloatOps F]

local notation "𝕄" => MT nD τ sig (HIx 1) (Elt F) ℕ UU ℕ

/-! ## Whole loads and stores -/

theorem off_zero : (![0, 0] : Fin 2 → Nat) = fun _ => 0 := funext fun a => by fin_cases a <;> rfl

/-- What is read of a buffer after a store of all of it is what was stored. -/
theorem read_stored {s : Shape} {e : EltTy} (v : View sig .tc .vmem s e) (f : v.ty.Contents (Elt F)) {off : Fin s.rank → ℕ}
    (h : off = fun _ => 0) (inb : ∀ a, off a + s.size a ≤ s.size a) (w : s.Idx → Elt F e) (L : List (View.Piece (Elt F) s e)) :
    v.read (Elt F) (v.writes (Elt F) f (⟨Rect.unit off s.size inb, w⟩ :: L)) = w := by
  funext y
  exact View.read_writes_cons_unit_of_mem v f inb w L y y h fun a => by subst h; simp

/-- What a load of all of a buffer reads after a store of all of it is what was stored. -/
theorem load_stored {s : Shape} {e : EltTy} (v : View sig .tc .vmem s e) {off : Fin s.rank → ℕ}
    (h : off = fun _ => 0) (inb : ∀ a, off a + s.size a ≤ s.size a) (w : s.Idx → Elt F e) (L : List (View.Piece (Elt F) s e)) :
    v.readCov (⟨Rect.unit off s.size inb, w⟩ :: L) (Rect.unit off s.size inb).toLoadRect = w := by
  rw [View.readCov_eq_canon_ld _ _ _ fun y => ⟨_, List.mem_cons_self, View.mem_set_unit_zero h inb y⟩,
    View.canon_cons_unit_zero h, View.ld_unit_zero h]

/-! ## The body's two conditions -/

/-- The step is a column block's first. -/
abbrev first (i : grid1.Coords) : Prop :=
  (Scalar.cmpi .ne (Scalar.extui (Scalar.cmpi .eq (BitVec.ofNat 32 (i 1).val) 0#32)) 0#32) = 1#1

/-- The step is a column block's last. -/
abbrev last (i : grid1.Coords) : Prop := k1_cond2 i = 1#1

theorem first_iff (t : Fin cfg1.N) : first (grid1.coords t) ↔ t.val % 10 = 0 := by
  have ht : t.val < 20 := Nat.lt_of_lt_of_eq t.isLt N_1
  have e1 : (grid1.coords t 1).val = t.val / 1 % 10 := Pipeline.Grid.coords_val t 1 (by decide) rfl
  simp only [first, e1]
  word_cmp

theorem last_iff (t : Fin cfg1.N) : last (grid1.coords t) ↔ t.val % 10 = 9 := by
  have ht : t.val < 20 := Nat.lt_of_lt_of_eq t.isLt N_1
  have e1 : (grid1.coords t 1).val = t.val / 1 % 10 := Pipeline.Grid.coords_val t 1 (by decide) rfl
  simp only [last, k1_cond2, e1]
  word_cmp

theorem idle_of_not_last : ∀ t : Fin cfg1.N, ¬last (grid1.coords t) → cfg1.idle 3 (grid1.coords t) = true := by decide +kernel
theorem kept_of_not_last : ∀ t : Fin cfg1.N, ¬last (grid1.coords t) → (cfg1.win 3).flush t = false := by decide +kernel
theorem live_of_last : ∀ t : Fin cfg1.N, last (grid1.coords t) → cfg1.idle 3 (grid1.coords t) = false := by decide +kernel

/-! ## The body, once -/

/-- What the body leaves in the scratch that held `s`. -/
def nextAcc (i : grid1.Coords) (s : Vec F S1024x2048 .f32) (x : Vec F S1024x640 .f32) (w : Vec F S640x2048 .f32) : Vec F S1024x2048 .f32 :=
  k1_pay2 (if first i then k1_pay1 else s) x w

/-- What the body leaves in the result's block that held `d`. -/
def nextOut (i : grid1.Coords) (s : Vec F S1024x2048 .f32) (x : Vec F S1024x640 .f32) (w : Vec F S640x2048 .f32) (b : Vec F S1x2048 .f32)
    (d : Vec F S1024x2048 .bf16) : Vec F S1024x2048 .bf16 :=
  if last i then k1_pay3 (nextAcc i s x w) b else d

set_option maxHeartbeats 4800000 in
/-- The body on whole buffers at any contents: the operands' blocks stay, the scratch and the result's block end as named. -/
theorem body_run (c : Dev nD) (i : grid1.Coords) (arg2 : Memref sig .tc .vmem S1024x640 .f32) (harg2 : arg2.IsWhole)
    (arg3 : Memref sig .tc .vmem S640x2048 .f32) (harg3 : arg3.IsWhole) (arg4 : Memref sig .tc .vmem S1x2048 .f32) (harg4 : arg4.IsWhole)
    (arg5 : Memref sig .tc .vmem S1024x2048 .bf16) (harg5 : arg5.IsWhole) (arg6 : Memref sig .tc .vmem S1024x2048 .f32) (harg6 : arg6.IsWhole)
    (x : Vec F S1024x640 .f32) (w : Vec F S640x2048 .f32) (b : Vec F S1x2048 .f32) (d : Vec F S1024x2048 .bf16) (s : Vec F S1024x2048 .f32)
    (R : PUnit → sProp 𝕄) :
    iprop(owns (c : Thread nD τ) arg2 fullShare x ∗ owns (c : Thread nD τ) arg3 fullShare w ∗ owns (c : Thread nD τ) arg4 fullShare b
        ∗ owns (c : Thread nD τ) arg5 fullShare d ∗ owns (c : Thread nD τ) arg6 fullShare s
        ∗ (iprop(owns (c : Thread nD τ) arg2 fullShare x ∗ owns (c : Thread nD τ) arg3 fullShare w ∗ owns (c : Thread nD τ) arg4 fullShare b
            ∗ owns (c : Thread nD τ) arg5 fullShare (nextOut i s x w b d) ∗ owns (c : Thread nD τ) arg6 fullShare (nextAcc i s x w)) -∗ R ⟨⟩))
      ⊢ wp frame (wpE (defs₀ (F := F)) 𝒱₀ c none) Set.univ
          (cc1__matmul_body i arg2 harg2 arg3 harg3 arg4 harg4 arg5 harg5 arg6 harg6) R := by
  simp only [cc1__matmul_body_eq_skeleton]; unfold cc1__matmul_body_skel
  unfold owns
  iintro ⟨⟨%f2, %h2, H2⟩, ⟨%f3, %h3, H3⟩, ⟨%f4, %h4, H4⟩, ⟨%f5, %h5, H5⟩, ⟨%f6, %h6, H6⟩, Hk⟩
  subst h2; subst h3; subst h4; subst h5; subst h6
  by_cases hc0 : first i <;> by_cases hc1 : last i
  all_goals
    sl_exec (disch := first | sl_exact hc0 | sl_exact hc1)
    sl_step
    iapply Hk
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr
      swap; · iexact H5
      ipureintro
      sl_unfold_words
      unfold nextOut nextAcc
      first | rw [if_pos hc1] | rw [if_neg hc1]
      try first | rw [if_pos hc0] | rw [if_neg hc0]
      try rw [read_stored _ _ off_zero]
      try simp only [load_stored (s := S1024x2048) _ off_zero, View.readAt_eq_ld, View.ld_unit_zero (S := S1024x640) off_zero,
        View.ld_unit_zero (S := S640x2048) off_zero, View.ld_unit_zero (S := S1024x2048) off_zero, View.ld_unit_zero (S := S1x2048) off_zero]
    · iexists _; isplitr
      swap; · iexact H6
      ipureintro
      sl_unfold_words
      unfold nextAcc
      first | rw [if_pos hc0] | rw [if_neg hc0]
      rw [read_stored _ _ off_zero]
      try simp only [load_stored (s := S1024x2048) _ off_zero, View.readAt_eq_ld, View.ld_unit_zero (S := S1024x640) off_zero,
        View.ld_unit_zero (S := S640x2048) off_zero, View.ld_unit_zero (S := S1024x2048) off_zero]

/-! ## The blocks and the accumulation -/

variable (V : (c : Dev nD) → (b : Ref sig .tc) → Buf (Elt F) ((c : Thread nD τ).loc b))

/-- The block of window `w`'s array that point `t` works on. -/
def blockAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The grid's point `n`. -/
def pt (n : ℕ) : Fin cfg1.N := ⟨n % cfg1.N, Nat.mod_lt _ (by rw [show cfg1.N = 20 from N_1]; decide)⟩

theorem pt_val (t : Fin cfg1.N) : pt t.val = t := Fin.ext (Nat.mod_eq_of_lt t.isLt)

/-- What the scratch holds after point `n`: the column block's partial products so far, added in order to zero. -/
def acc (c : Dev nD) : ℕ → Vec F S1024x2048 .f32
  | 0 => k1_pay2 k1_pay1 (blockAt V c 0 (pt 0)) (blockAt V c 1 (pt 0))
  | n + 1 => k1_pay2 (if (n + 1) % 10 = 0 then k1_pay1 else acc c n) (blockAt V c 0 (pt (n + 1))) (blockAt V c 1 (pt (n + 1)))

theorem acc_next (c : Dev nD) (t : Fin cfg1.N) (s : Vec F S1024x2048 .f32) (hs : t.val ≠ 0 → s = acc V c (t.val - 1)) :
    nextAcc (grid1.coords t) s (blockAt V c 0 t) (blockAt V c 1 t) = acc V c t.val := by
  unfold nextAcc
  obtain ⟨n, hn⟩ := t
  cases n with
  | zero =>
    rw [if_pos ((first_iff ⟨0, hn⟩).mpr (Nat.zero_mod _))]
    show _ = k1_pay2 _ (blockAt V c 0 (pt 0)) (blockAt V c 1 (pt 0))
    rw [show pt 0 = (⟨0, hn⟩ : Fin cfg1.N) from pt_val ⟨0, hn⟩]
  | succ n =>
    show _ = k1_pay2 _ (blockAt V c 0 (pt (n + 1))) (blockAt V c 1 (pt (n + 1)))
    rw [show pt (n + 1) = (⟨n + 1, hn⟩ : Fin cfg1.N) from pt_val ⟨n + 1, hn⟩, hs (Nat.succ_ne_zero n)]
    by_cases h : (n + 1) % 10 = 0
    · rw [if_pos h, if_pos ((first_iff ⟨n + 1, hn⟩).mpr h)]
    · rw [if_neg h, if_neg (fun h' => h ((first_iff ⟨n + 1, hn⟩).mp h'))]
      rfl

/-- What the body stores into the result's block when point `t` is a column block's last. -/
def outAt (c : Dev nD) (t : Fin cfg1.N) : Vec F S1024x2048 .bf16 := k1_pay3 (acc V c t.val) (blockAt V c 2 t)

/-! ## The pipeline's data -/

/-- The scratch the body carries from point to point. -/
abbrev scr : Memref sig .tc .vmem S1024x2048 .f32 := Memref.whole cc1_scratch0

/-- The core's other scoped buffers that the pipeline does not stage, each at some contents: the scratch completes them. -/
def others (c : Dev nD) : sProp 𝕄 :=
  iprop(∀ s : Vec F S1024x2048 .f32, owns (c : Thread nD τ) scr fullShare s
    -∗ Pipeline.scopedRest (Ix := HIx 1) (Name := ℕ) (U := UU) (Lvl := ℕ) (Val := Elt F) spec1 c)

/-- Before point `n`: the scratch at what the point before left, beside the other buffers. -/
def kept (c : Dev nD) (n : ℕ) : sProp 𝕄 :=
  iprop((∃ s : Vec F S1024x2048 .f32, ⌜n ≠ 0 → s = acc V c (n - 1)⌝ ∗ owns (c : Thread nD τ) scr fullShare s) ∗ others (F := F) c)

/-- The proof data: the arrays as found, each operand's block left in place, the result's block as stored. -/
def dat (c : Dev nD) : Dat τ (Elt F) (HIx 1) ℕ UU ℕ cfg1 c where
  A w := V c (Pipeline.arrRef spec1 w)
  after w t := match w with
    | ⟨0, _⟩ => blockAt V c 0 t
    | ⟨1, _⟩ => blockAt V c 1 t
    | ⟨2, _⟩ => blockAt V c 2 t
    | ⟨3, _⟩ => outAt V c t
  Φ t := kept V c t.val
  q _ := fullShare
  owed _ := 0
  recorded _ := {p | (K (F := F)).lev ((c : Thread nD τ), p.1) p.2 ≤ 8}

theorem dat_A (c : Dev nD) (w : Fin cfg1.W) : (dat V c).A w = V c (Pipeline.arrRef spec1 w) := by dsimp only [dat]
theorem dat_Φ (c : Dev nD) (t : Fin (cfg1.N + 1)) : (dat V c).Φ t = kept V c t.val := by dsimp only [dat]
theorem after_0 (c : Dev nD) (t : Fin cfg1.N) : (dat V c).after 0 t = blockAt V c 0 t := by dsimp only [dat]
theorem after_1 (c : Dev nD) (t : Fin cfg1.N) : (dat V c).after 1 t = blockAt V c 1 t := by dsimp only [dat]
theorem after_2 (c : Dev nD) (t : Fin cfg1.N) : (dat V c).after 2 t = blockAt V c 2 t := by dsimp only [dat]
theorem after_3 (c : Dev nD) (t : Fin cfg1.N) : (dat V c).after 3 t = outAt V c t := by dsimp only [dat]

theorem before_0 (c : Dev nD) (t : Fin cfg1.N) (d) : (dat V c).before 0 t d = blockAt V c 0 t :=
  ((dat V c).before_in_eq_fetched 0 rfl (fun _ => rfl) (fun _ _ _ => rfl)
    (fun t => by rw [after_0]; unfold Dat.blockOf blockAt; rw [dat_A]) t d).trans
    (by unfold Dat.fetched Dat.blockOf blockAt; rw [dat_A]; try rfl)
theorem before_1 (c : Dev nD) (t : Fin cfg1.N) (d) : (dat V c).before 1 t d = blockAt V c 1 t :=
  ((dat V c).before_in_eq_fetched 1 rfl (fun _ => rfl) (fun _ _ _ => rfl)
    (fun t => by rw [after_1]; unfold Dat.blockOf blockAt; rw [dat_A]) t d).trans
    (by unfold Dat.fetched Dat.blockOf blockAt; rw [dat_A]; try rfl)
theorem before_2 (c : Dev nD) (t : Fin cfg1.N) (d) : (dat V c).before 2 t d = blockAt V c 2 t :=
  ((dat V c).before_in_eq_fetched 2 rfl (fun _ => rfl) (fun _ _ _ => rfl)
    (fun t => by rw [after_2]; unfold Dat.blockOf blockAt; rw [dat_A]) t d).trans
    (by unfold Dat.fetched Dat.blockOf blockAt; rw [dat_A]; try rfl)

theorem leaves_0 (c : Dev nD) (t : Fin cfg1.N) :
    (dat V c).leavesExact 0 t = owns (c : Thread nD τ) (st1_0 t) fullShare (blockAt V c 0 t) := by
  unfold Dat.leavesExact; rw [show cfg1.idle 0 (grid1.coords t) = false from rfl, after_0]
theorem leaves_1 (c : Dev nD) (t : Fin cfg1.N) :
    (dat V c).leavesExact 1 t = owns (c : Thread nD τ) (st1_1 t) fullShare (blockAt V c 1 t) := by
  unfold Dat.leavesExact; rw [show cfg1.idle 1 (grid1.coords t) = false from rfl, after_1]
theorem leaves_2 (c : Dev nD) (t : Fin cfg1.N) :
    (dat V c).leavesExact 2 t = owns (c : Thread nD τ) (st1_2 t) fullShare (blockAt V c 2 t) := by
  unfold Dat.leavesExact; rw [show cfg1.idle 2 (grid1.coords t) = false from rfl, after_2]

/-- The result's block, stored at a last step and left alone elsewhere, is as the pipeline wants it. -/
theorem leaves_3 (c : Dev nD) (t : Fin cfg1.N) (s : Vec F S1024x2048 .f32) (hs : t.val ≠ 0 → s = acc V c (t.val - 1)) (d) :
    owns (c : Thread nD τ) (st1_3 t) fullShare (nextOut (grid1.coords t) s (blockAt V c 0 t) (blockAt V c 1 t) (blockAt V c 2 t)
        ((dat V c).before 3 t d))
      ⊢ ((dat V c).leavesExact 3 t : sProp 𝕄) := by
  by_cases h : last (grid1.coords t)
  · rw [show (dat V c).leavesExact 3 t = owns (c : Thread nD τ) (st1_3 t) fullShare ((dat V c).after 3 t) from by
      unfold Dat.leavesExact; rw [live_of_last t h], after_3]
    unfold nextOut outAt
    rw [if_pos h, acc_next V c t s hs]
  · rw [Dat.leavesExact_idle (dat V c) 3 t (idle_of_not_last t h) (kept_of_not_last t h)]
    unfold nextOut
    rw [if_neg h]
    iintro H; iexists d; iexact H

set_option maxHeartbeats 4800000 in
/-- The body at a point of the grid. -/
theorem body_at (c : Dev nD) (t : Fin cfg1.N) :
    iprop((dat V c).Φ t.castSucc ∗ (dat V c).owesAt none t.castSucc
        ∗ (∃ d, owns (c : Thread nD τ) (st1_0 t) fullShare ((dat V c).before 0 t d))
        ∗ (∃ d, owns (c : Thread nD τ) (st1_1 t) fullShare ((dat V c).before 1 t d))
        ∗ (∃ d, owns (c : Thread nD τ) (st1_2 t) fullShare ((dat V c).before 2 t d))
        ∗ (∃ d, owns (c : Thread nD τ) (st1_3 t) fullShare ((dat V c).before 3 t d)))
      ⊢ wp frame (wpE (defs₀ (F := F)) 𝒱₀ c none) Set.univ (bodyAt1 t)
          fun _ => iprop((dat V c).Φ t.succ ∗ (dat V c).owesAt none t.succ
            ∗ (dat V c).leavesExact 0 t ∗ (dat V c).leavesExact 1 t ∗ (dat V c).leavesExact 2 t ∗ (dat V c).leavesExact 3 t) := by
  unfold bodyAt1
  simp only [before_0, before_1, before_2, leaves_0, leaves_1, leaves_2]
  rw [show (dat V c).owesAt none t.succ = (dat V c).owesAt none t.castSucc from rfl, dat_Φ, dat_Φ,
    show t.castSucc.val = t.val from rfl, show t.succ.val = t.val + 1 from rfl]
  unfold kept
  iintro ⟨⟨⟨%s, %hs, HS⟩, Hrest⟩, Ho, ⟨%d0, H0⟩, ⟨%d1, H1⟩, ⟨%d2, H2⟩, ⟨%d3, H3⟩⟩
  iapply (body_run c (grid1.coords t) _ _ _ _ _ _ _ _ _ _ (blockAt V c 0 t) (blockAt V c 1 t) (blockAt V c 2 t) ((dat V c).before 3 t d3) s _)
  isplitl [H0]; · iexact H0
  isplitl [H1]; · iexact H1
  isplitl [H2]; · iexact H2
  isplitl [H3]; · iexact H3
  isplitl [HS]; · iexact HS
  iintro ⟨H0, H1, H2, H3, HS⟩
  isplitl [HS Hrest]
  · isplitl [HS]
    · iexists _; isplitr
      swap; · iexact HS
      ipureintro; intro _; exact acc_next V c t s hs
    · iexact Hrest
  isplitl [Ho]; · iexact Ho
  isplitl [H0]; · iexact H0
  isplitl [H1]; · iexact H1
  isplitl [H2]; · iexact H2
  iapply (leaves_3 V c t s hs d3); iexact H3

theorem body_row (t : Fin cfg1.N) : defs₀ (F := F) .tc cfg1.body (cfg1.bodyArgs t (cfg1.slots t)) = bodyAt1 t := by
  rfl

/-- The pipeline's obligation of the body, at every point. -/
theorem body_obligation (c : Dev nD) : Pipeline.BodyObligation (dat V c) (defs₀ (F := F)) 𝒱₀ none Set.univ := fun t => by
  rw [bigSep_W1, bigSep_W1, body_row]
  exact triple_restated (body_at V c t) rfl .rfl fun _ => .rfl

/-! ## The invariant's two ends -/

/-- The scratch at some contents is the memref owned at some value. -/
theorem scr_owns (c : Dev nD) (f : Buf (Elt F) ((c : Thread nD τ).loc cc1_scratch0)) :
    (((c : Thread nD τ).loc cc1_scratch0) ↦{fullShare} f : sProp 𝕄) = owns (c : Thread nD τ) scr fullShare f := by
  rw [owns_whole]

/-- The scoped buffers the pipeline does not stage give the invariant before the first point. -/
theorem enter (c : Dev nD) :
    (Pipeline.scopedRest (Ix := HIx 1) (Name := ℕ) (U := UU) (Lvl := ℕ) (Val := Elt F) spec1 c : sProp 𝕄) ⊢ (dat V c).Φ 0 := by
  rw [dat_Φ]
  unfold kept others
  rw [scopedRest1_eq]
  iintro ⟨⟨%f, HS⟩, H⟩
  isplitl [HS]
  · iexists f; isplitr
    · ipureintro; intro h; exact absurd rfl h
    · iapply (Entails.of_eq (scr_owns c f)); iexact HS
  · iintro %s HS
    isplitl [HS]
    · iexists s; iapply (Entails.of_eq (scr_owns c s).symm); iexact HS
    · iexact H

/-- The invariant after the last point gives them back. -/
theorem leave (c : Dev nD) :
    ((dat V c).Φ (Fin.last cfg1.N) : sProp 𝕄)
      ⊢ Pipeline.scopedRest (Ix := HIx 1) (Name := ℕ) (U := UU) (Lvl := ℕ) (Val := Elt F) spec1 c := by
  rw [dat_Φ]
  unfold kept others
  iintro ⟨⟨%s, -, HS⟩, H⟩
  iapply H; iexact HS

end Cert.KernelIdeal.Own.Mm1

end
-- ==== Proof.KernelIdeal.Mm2.lean ====
/-
  The matrix product of custom_call 2 of `KernelIdeal` on its grid (2 column blocks by 4 steps of the contraction): what
  the carried scratch holds after each point, what is stored into the result's block at a column block's last step, and
  the pipeline's obligation of the body at every point, from any contents of the arrays at the call.
-/
module

public import proofs.«01_k».proof.Proof.KernelIdeal.Tile
public import proofs.«01_k».proof.Proof.Gen.KernelIdeal.Launch
public import proofs.«01_k».proof.Proof.Gen.KernelIdeal.Points
public import Idealize.ShloMosaic.Lib.Pipeline.FrameBody
public import Idealize.ShloMosaic.Lib.Pipeline.ReadBack
public import Idealize.ShloMosaic.Lib.Pipeline.Regions
public import Idealize.ShloMosaic.Lib.WordCmp
public import Idealize.ShloMosaic.Lib.WritesUnit

@[expose] public section

set_option maxRecDepth 16384

noncomputable section

namespace Cert.KernelIdeal.Own.Mm2

open Cert.KernelIdeal Cert.KernelIdeal.Gen Cert.KernelIdeal.Own

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat)

variable {F : FTy → Type} [FloatOps F]

local notation "𝕄" => MT nD τ sig (HIx 1) (Elt F) ℕ UU ℕ

/-! ## Whole loads and stores -/

theorem off_zero : (![0, 0] : Fin 2 → Nat) = fun _ => 0 := funext fun a => by fin_cases a <;> rfl

/-- What is read of a buffer after a store of all of it is what was stored. -/
theorem read_stored {s : Shape} {e : EltTy} (v : View sig .tc .vmem s e) (f : v.ty.Contents (Elt F)) {off : Fin s.rank → ℕ}
    (h : off = fun _ => 0) (inb : ∀ a, off a + s.size a ≤ s.size a) (w : s.Idx → Elt F e) (L : List (View.Piece (Elt F) s e)) :
    v.read (Elt F) (v.writes (Elt F) f (⟨Rect.unit off s.size inb, w⟩ :: L)) = w := by
  funext y
  exact View.read_writes_cons_unit_of_mem v f inb w L y y h fun a => by subst h; simp

/-- What a load of all of a buffer reads after a store of all of it is what was stored. -/
theorem load_stored {s : Shape} {e : EltTy} (v : View sig .tc .vmem s e) {off : Fin s.rank → ℕ}
    (h : off = fun _ => 0) (inb : ∀ a, off a + s.size a ≤ s.size a) (w : s.Idx → Elt F e) (L : List (View.Piece (Elt F) s e)) :
    v.readCov (⟨Rect.unit off s.size inb, w⟩ :: L) (Rect.unit off s.size inb).toLoadRect = w := by
  rw [View.readCov_eq_canon_ld _ _ _ fun y => ⟨_, List.mem_cons_self, View.mem_set_unit_zero h inb y⟩,
    View.canon_cons_unit_zero h, View.ld_unit_zero h]

/-! ## The body's two conditions -/

/-- The step is a column block's first. -/
abbrev first (i : grid2.Coords) : Prop :=
  (Scalar.cmpi .ne (Scalar.extui (Scalar.cmpi .eq (BitVec.ofNat 32 (i 1).val) 0#32)) 0#32) = 1#1

/-- The step is a column block's last. -/
abbrev last (i : grid2.Coords) : Prop := k2_cond2 i = 1#1

theorem first_iff (t : Fin cfg2.N) : first (grid2.coords t) ↔ t.val % 4 = 0 := by
  have ht : t.val < 8 := Nat.lt_of_lt_of_eq t.isLt N_2
  have e1 : (grid2.coords t 1).val = t.val / 1 % 4 := Pipeline.Grid.coords_val t 1 (by decide) rfl
  simp only [first, e1]
  word_cmp

theorem last_iff (t : Fin cfg2.N) : last (grid2.coords t) ↔ t.val % 4 = 3 := by
  have ht : t.val < 8 := Nat.lt_of_lt_of_eq t.isLt N_2
  have e1 : (grid2.coords t 1).val = t.val / 1 % 4 := Pipeline.Grid.coords_val t 1 (by decide) rfl
  simp only [last, k2_cond2, e1]
  word_cmp

theorem idle_of_not_last : ∀ t : Fin cfg2.N, ¬last (grid2.coords t) → cfg2.idle 3 (grid2.coords t) = true := by decide +kernel
theorem kept_of_not_last : ∀ t : Fin cfg2.N, ¬last (grid2.coords t) → (cfg2.win 3).flush t = false := by decide +kernel
theorem live_of_last : ∀ t : Fin cfg2.N, last (grid2.coords t) → cfg2.idle 3 (grid2.coords t) = false := by decide +kernel

/-! ## The body, once -/

/-- What the body leaves in the scratch that held `s`. -/
def nextAcc (i : grid2.Coords) (s : Vec F S1024x2048 .f32) (x : Vec F S1024x1024 .bf16) (w : Vec F S1024x2048 .f32) : Vec F S1024x2048 .f32 :=
  k2_pay2 (if first i then k2_pay1 else s) x w

/-- What the body leaves in the result's block that held `d`. -/
def nextOut (i : grid2.Coords) (s : Vec F S1024x2048 .f32) (x : Vec F S1024x1024 .bf16) (w : Vec F S1024x2048 .f32) (b : Vec F S1x2048 .f32)
    (d : Vec F S1024x2048 .f32) : Vec F S1024x2048 .f32 :=
  if last i then k2_pay3 (nextAcc i s x w) b else d

set_option maxHeartbeats 4800000 in
/-- The body on whole buffers at any contents: the operands' blocks stay, the scratch and the result's block end as named. -/
theorem body_run (c : Dev nD) (i : grid2.Coords) (arg2 : Memref sig .tc .vmem S1024x1024 .bf16) (harg2 : arg2.IsWhole)
    (arg3 : Memref sig .tc .vmem S1024x2048 .f32) (harg3 : arg3.IsWhole) (arg4 : Memref sig .tc .vmem S1x2048 .f32) (harg4 : arg4.IsWhole)
    (arg5 : Memref sig .tc .vmem S1024x2048 .f32) (harg5 : arg5.IsWhole) (arg6 : Memref sig .tc .vmem S1024x2048 .f32) (harg6 : arg6.IsWhole)
    (x : Vec F S1024x1024 .bf16) (w : Vec F S1024x2048 .f32) (b : Vec F S1x2048 .f32) (d : Vec F S1024x2048 .f32) (s : Vec F S1024x2048 .f32)
    (R : PUnit → sProp 𝕄) :
    iprop(owns (c : Thread nD τ) arg2 fullShare x ∗ owns (c : Thread nD τ) arg3 fullShare w ∗ owns (c : Thread nD τ) arg4 fullShare b
        ∗ owns (c : Thread nD τ) arg5 fullShare d ∗ owns (c : Thread nD τ) arg6 fullShare s
        ∗ (iprop(owns (c : Thread nD τ) arg2 fullShare x ∗ owns (c : Thread nD τ) arg3 fullShare w ∗ owns (c : Thread nD τ) arg4 fullShare b
            ∗ owns (c : Thread nD τ) arg5 fullShare (nextOut i s x w b d) ∗ owns (c : Thread nD τ) arg6 fullShare (nextAcc i s x w)) -∗ R ⟨⟩))
      ⊢ wp frame (wpE (defs₀ (F := F)) 𝒱₀ c none) Set.univ
          (cc2__matmul_body i arg2 harg2 arg3 harg3 arg4 harg4 arg5 harg5 arg6 harg6) R := by
  simp only [cc2__matmul_body_eq_skeleton]; unfold cc2__matmul_body_skel
  unfold owns
  iintro ⟨⟨%f2, %h2, H2⟩, ⟨%f3, %h3, H3⟩, ⟨%f4, %h4, H4⟩, ⟨%f5, %h5, H5⟩, ⟨%f6, %h6, H6⟩, Hk⟩
  subst h2; subst h3; subst h4; subst h5; subst h6
  by_cases hc0 : first i <;> by_cases hc1 : last i
  all_goals
    sl_exec (disch := first | sl_exact hc0 | sl_exact hc1)
    sl_step
    iapply Hk
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr
      swap; · iexact H5
      ipureintro
      sl_unfold_words
      unfold nextOut nextAcc
      first | rw [if_pos hc1] | rw [if_neg hc1]
      try first | rw [if_pos hc0] | rw [if_neg hc0]
      try rw [read_stored _ _ off_zero]
      try simp only [load_stored (s := S1024x2048) _ off_zero, View.readAt_eq_ld, View.ld_unit_zero (S := S1024x1024) off_zero,
        View.ld_unit_zero (S := S1024x2048) off_zero, View.ld_unit_zero (S := S1024x2048) off_zero, View.ld_unit_zero (S := S1x2048) off_zero]
    · iexists _; isplitr
      swap; · iexact H6
      ipureintro
      sl_unfold_words
      unfold nextAcc
      first | rw [if_pos hc0] | rw [if_neg hc0]
      rw [read_stored _ _ off_zero]
      try simp only [load_stored (s := S1024x2048) _ off_zero, View.readAt_eq_ld, View.ld_unit_zero (S := S1024x1024) off_zero,
        View.ld_unit_zero (S := S1024x2048) off_zero, View.ld_unit_zero (S := S1024x2048) off_zero]

/-! ## The blocks and the accumulation -/

variable (V : (c : Dev nD) → (b : Ref sig .tc) → Buf (Elt F) ((c : Thread nD τ).loc b))

/-- The block of window `w`'s array that point `t` works on. -/
def blockAt (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The grid's point `n`. -/
def pt (n : ℕ) : Fin cfg2.N := ⟨n % cfg2.N, Nat.mod_lt _ (by rw [show cfg2.N = 8 from N_2]; decide)⟩

theorem pt_val (t : Fin cfg2.N) : pt t.val = t := Fin.ext (Nat.mod_eq_of_lt t.isLt)

/-- What the scratch holds after point `n`: the column block's partial products so far, added in order to zero. -/
def acc (c : Dev nD) : ℕ → Vec F S1024x2048 .f32
  | 0 => k2_pay2 k2_pay1 (blockAt V c 0 (pt 0)) (blockAt V c 1 (pt 0))
  | n + 1 => k2_pay2 (if (n + 1) % 4 = 0 then k2_pay1 else acc c n) (blockAt V c 0 (pt (n + 1))) (blockAt V c 1 (pt (n + 1)))

theorem acc_next (c : Dev nD) (t : Fin cfg2.N) (s : Vec F S1024x2048 .f32) (hs : t.val ≠ 0 → s = acc V c (t.val - 1)) :
    nextAcc (grid2.coords t) s (blockAt V c 0 t) (blockAt V c 1 t) = acc V c t.val := by
  unfold nextAcc
  obtain ⟨n, hn⟩ := t
  cases n with
  | zero =>
    rw [if_pos ((first_iff ⟨0, hn⟩).mpr (Nat.zero_mod _))]
    show _ = k2_pay2 _ (blockAt V c 0 (pt 0)) (blockAt V c 1 (pt 0))
    rw [show pt 0 = (⟨0, hn⟩ : Fin cfg2.N) from pt_val ⟨0, hn⟩]
  | succ n =>
    show _ = k2_pay2 _ (blockAt V c 0 (pt (n + 1))) (blockAt V c 1 (pt (n + 1)))
    rw [show pt (n + 1) = (⟨n + 1, hn⟩ : Fin cfg2.N) from pt_val ⟨n + 1, hn⟩, hs (Nat.succ_ne_zero n)]
    by_cases h : (n + 1) % 4 = 0
    · rw [if_pos h, if_pos ((first_iff ⟨n + 1, hn⟩).mpr h)]
    · rw [if_neg h, if_neg (fun h' => h ((first_iff ⟨n + 1, hn⟩).mp h'))]
      rfl

/-- What the body stores into the result's block when point `t` is a column block's last. -/
def outAt (c : Dev nD) (t : Fin cfg2.N) : Vec F S1024x2048 .f32 := k2_pay3 (acc V c t.val) (blockAt V c 2 t)

/-! ## The pipeline's data -/

/-- The scratch the body carries from point to point. -/
abbrev scr : Memref sig .tc .vmem S1024x2048 .f32 := Memref.whole cc2_scratch0

/-- The core's other scoped buffers that the pipeline does not stage, each at some contents: the scratch completes them. -/
def others (c : Dev nD) : sProp 𝕄 :=
  iprop(∀ s : Vec F S1024x2048 .f32, owns (c : Thread nD τ) scr fullShare s
    -∗ Pipeline.scopedRest (Ix := HIx 1) (Name := ℕ) (U := UU) (Lvl := ℕ) (Val := Elt F) spec2 c)

/-- Before point `n`: the scratch at what the point before left, beside the other buffers. -/
def kept (c : Dev nD) (n : ℕ) : sProp 𝕄 :=
  iprop((∃ s : Vec F S1024x2048 .f32, ⌜n ≠ 0 → s = acc V c (n - 1)⌝ ∗ owns (c : Thread nD τ) scr fullShare s) ∗ others (F := F) c)

/-- The proof data: the arrays as found, each operand's block left in place, the result's block as stored. -/
def dat (c : Dev nD) : Dat τ (Elt F) (HIx 1) ℕ UU ℕ cfg2 c where
  A w := V c (Pipeline.arrRef spec2 w)
  after w t := match w with
    | ⟨0, _⟩ => blockAt V c 0 t
    | ⟨1, _⟩ => blockAt V c 1 t
    | ⟨2, _⟩ => blockAt V c 2 t
    | ⟨3, _⟩ => outAt V c t
  Φ t := kept V c t.val
  q _ := fullShare
  owed _ := 0
  recorded _ := {p | (K (F := F)).lev ((c : Thread nD τ), p.1) p.2 ≤ 8}

theorem dat_A (c : Dev nD) (w : Fin cfg2.W) : (dat V c).A w = V c (Pipeline.arrRef spec2 w) := by dsimp only [dat]
theorem dat_Φ (c : Dev nD) (t : Fin (cfg2.N + 1)) : (dat V c).Φ t = kept V c t.val := by dsimp only [dat]
theorem after_0 (c : Dev nD) (t : Fin cfg2.N) : (dat V c).after 0 t = blockAt V c 0 t := by dsimp only [dat]
theorem after_1 (c : Dev nD) (t : Fin cfg2.N) : (dat V c).after 1 t = blockAt V c 1 t := by dsimp only [dat]
theorem after_2 (c : Dev nD) (t : Fin cfg2.N) : (dat V c).after 2 t = blockAt V c 2 t := by dsimp only [dat]
theorem after_3 (c : Dev nD) (t : Fin cfg2.N) : (dat V c).after 3 t = outAt V c t := by dsimp only [dat]

theorem before_0 (c : Dev nD) (t : Fin cfg2.N) (d) : (dat V c).before 0 t d = blockAt V c 0 t :=
  ((dat V c).before_in_eq_fetched 0 rfl (fun _ => rfl) (fun _ _ _ => rfl)
    (fun t => by rw [after_0]; unfold Dat.blockOf blockAt; rw [dat_A]) t d).trans
    (by unfold Dat.fetched Dat.blockOf blockAt; rw [dat_A]; try rfl)
theorem before_1 (c : Dev nD) (t : Fin cfg2.N) (d) : (dat V c).before 1 t d = blockAt V c 1 t :=
  ((dat V c).before_in_eq_fetched 1 rfl (fun _ => rfl) (fun _ _ _ => rfl)
    (fun t => by rw [after_1]; unfold Dat.blockOf blockAt; rw [dat_A]) t d).trans
    (by unfold Dat.fetched Dat.blockOf blockAt; rw [dat_A]; try rfl)
theorem before_2 (c : Dev nD) (t : Fin cfg2.N) (d) : (dat V c).before 2 t d = blockAt V c 2 t :=
  ((dat V c).before_in_eq_fetched 2 rfl (fun _ => rfl) (fun _ _ _ => rfl)
    (fun t => by rw [after_2]; unfold Dat.blockOf blockAt; rw [dat_A]) t d).trans
    (by unfold Dat.fetched Dat.blockOf blockAt; rw [dat_A]; try rfl)

theorem leaves_0 (c : Dev nD) (t : Fin cfg2.N) :
    (dat V c).leavesExact 0 t = owns (c : Thread nD τ) (st2_0 t) fullShare (blockAt V c 0 t) := by
  unfold Dat.leavesExact; rw [show cfg2.idle 0 (grid2.coords t) = false from rfl, after_0]
theorem leaves_1 (c : Dev nD) (t : Fin cfg2.N) :
    (dat V c).leavesExact 1 t = owns (c : Thread nD τ) (st2_1 t) fullShare (blockAt V c 1 t) := by
  unfold Dat.leavesExact; rw [show cfg2.idle 1 (grid2.coords t) = false from rfl, after_1]
theorem leaves_2 (c : Dev nD) (t : Fin cfg2.N) :
    (dat V c).leavesExact 2 t = owns (c : Thread nD τ) (st2_2 t) fullShare (blockAt V c 2 t) := by
  unfold Dat.leavesExact; rw [show cfg2.idle 2 (grid2.coords t) = false from rfl, after_2]

/-- The result's block, stored at a last step and left alone elsewhere, is as the pipeline wants it. -/
theorem leaves_3 (c : Dev nD) (t : Fin cfg2.N) (s : Vec F S1024x2048 .f32) (hs : t.val ≠ 0 → s = acc V c (t.val - 1)) (d) :
    owns (c : Thread nD τ) (st2_3 t) fullShare (nextOut (grid2.coords t) s (blockAt V c 0 t) (blockAt V c 1 t) (blockAt V c 2 t)
        ((dat V c).before 3 t d))
      ⊢ ((dat V c).leavesExact 3 t : sProp 𝕄) := by
  by_cases h : last (grid2.coords t)
  · rw [show (dat V c).leavesExact 3 t = owns (c : Thread nD τ) (st2_3 t) fullShare ((dat V c).after 3 t) from by
      unfold Dat.leavesExact; rw [live_of_last t h], after_3]
    unfold nextOut outAt
    rw [if_pos h, acc_next V c t s hs]
  · rw [Dat.leavesExact_idle (dat V c) 3 t (idle_of_not_last t h) (kept_of_not_last t h)]
    unfold nextOut
    rw [if_neg h]
    iintro H; iexists d; iexact H

set_option maxHeartbeats 4800000 in
/-- The body at a point of the grid. -/
theorem body_at (c : Dev nD) (t : Fin cfg2.N) :
    iprop((dat V c).Φ t.castSucc ∗ (dat V c).owesAt none t.castSucc
        ∗ (∃ d, owns (c : Thread nD τ) (st2_0 t) fullShare ((dat V c).before 0 t d))
        ∗ (∃ d, owns (c : Thread nD τ) (st2_1 t) fullShare ((dat V c).before 1 t d))
        ∗ (∃ d, owns (c : Thread nD τ) (st2_2 t) fullShare ((dat V c).before 2 t d))
        ∗ (∃ d, owns (c : Thread nD τ) (st2_3 t) fullShare ((dat V c).before 3 t d)))
      ⊢ wp frame (wpE (defs₀ (F := F)) 𝒱₀ c none) Set.univ (bodyAt2 t)
          fun _ => iprop((dat V c).Φ t.succ ∗ (dat V c).owesAt none t.succ
            ∗ (dat V c).leavesExact 0 t ∗ (dat V c).leavesExact 1 t ∗ (dat V c).leavesExact 2 t ∗ (dat V c).leavesExact 3 t) := by
  unfold bodyAt2
  simp only [before_0, before_1, before_2, leaves_0, leaves_1, leaves_2]
  rw [show (dat V c).owesAt none t.succ = (dat V c).owesAt none t.castSucc from rfl, dat_Φ, dat_Φ,
    show t.castSucc.val = t.val from rfl, show t.succ.val = t.val + 1 from rfl]
  unfold kept
  iintro ⟨⟨⟨%s, %hs, HS⟩, Hrest⟩, Ho, ⟨%d0, H0⟩, ⟨%d1, H1⟩, ⟨%d2, H2⟩, ⟨%d3, H3⟩⟩
  iapply (body_run c (grid2.coords t) _ _ _ _ _ _ _ _ _ _ (blockAt V c 0 t) (blockAt V c 1 t) (blockAt V c 2 t) ((dat V c).before 3 t d3) s _)
  isplitl [H0]; · iexact H0
  isplitl [H1]; · iexact H1
  isplitl [H2]; · iexact H2
  isplitl [H3]; · iexact H3
  isplitl [HS]; · iexact HS
  iintro ⟨H0, H1, H2, H3, HS⟩
  isplitl [HS Hrest]
  · isplitl [HS]
    · iexists _; isplitr
      swap; · iexact HS
      ipureintro; intro _; exact acc_next V c t s hs
    · iexact Hrest
  isplitl [Ho]; · iexact Ho
  isplitl [H0]; · iexact H0
  isplitl [H1]; · iexact H1
  isplitl [H2]; · iexact H2
  iapply (leaves_3 V c t s hs d3); iexact H3

theorem body_row (t : Fin cfg2.N) : defs₀ (F := F) .tc cfg2.body (cfg2.bodyArgs t (cfg2.slots t)) = bodyAt2 t := by
  rfl

/-- The pipeline's obligation of the body, at every point. -/
theorem body_obligation (c : Dev nD) : Pipeline.BodyObligation (dat V c) (defs₀ (F := F)) 𝒱₀ none Set.univ := fun t => by
  rw [bigSep_W2, bigSep_W2, body_row]
  exact triple_restated (body_at V c t) rfl .rfl fun _ => .rfl

/-! ## The invariant's two ends -/

/-- The scratch at some contents is the memref owned at some value. -/
theorem scr_owns (c : Dev nD) (f : Buf (Elt F) ((c : Thread nD τ).loc cc2_scratch0)) :
    (((c : Thread nD τ).loc cc2_scratch0) ↦{fullShare} f : sProp 𝕄) = owns (c : Thread nD τ) scr fullShare f := by
  rw [owns_whole]

/-- The scoped buffers the pipeline does not stage give the invariant before the first point. -/
theorem enter (c : Dev nD) :
    (Pipeline.scopedRest (Ix := HIx 1) (Name := ℕ) (U := UU) (Lvl := ℕ) (Val := Elt F) spec2 c : sProp 𝕄) ⊢ (dat V c).Φ 0 := by
  rw [dat_Φ]
  unfold kept others
  rw [scopedRest2_eq]
  iintro ⟨HA, HB, HC, HD, HE, HG, HI, HJ, HK, ⟨%f, HS⟩⟩
  isplitl [HS]
  · iexists f; isplitr
    · ipureintro; intro h; exact absurd rfl h
    · iapply (Entails.of_eq (scr_owns c f)); iexact HS
  · iintro %s HS
    isplitl [HA]; · iexact HA
    isplitl [HB]; · iexact HB
    isplitl [HC]; · iexact HC
    isplitl [HD]; · iexact HD
    isplitl [HE]; · iexact HE
    isplitl [HG]; · iexact HG
    isplitl [HI]; · iexact HI
    isplitl [HJ]; · iexact HJ
    isplitl [HK]; · iexact HK
    iexists s; iapply (Entails.of_eq (scr_owns c s).symm); iexact HS

/-- The invariant after the last point gives them back. -/
theorem leave (c : Dev nD) :
    ((dat V c).Φ (Fin.last cfg2.N) : sProp 𝕄)
      ⊢ Pipeline.scopedRest (Ix := HIx 1) (Name := ℕ) (U := UU) (Lvl := ℕ) (Val := Elt F) spec2 c := by
  rw [dat_Φ]
  unfold kept others
  iintro ⟨⟨%s, -, HS⟩, H⟩
  iapply H; iexact HS

end Cert.KernelIdeal.Own.Mm2

end
-- ==== Proof.KernelIdeal.Regions.lean ====
/-
  The two matmul pipelines of `KernelIdeal` as regions of @main: each is entered with every unscoped buffer at some
  contents, and left with those contents changed at its result array only. Beside the buffers a region carries
  what the core has recorded of its waits: nothing above the level of the SparseCore call before it.
-/
module

public import proofs.«01_k».proof.Proof.KernelIdeal.Call
public import proofs.«01_k».proof.Proof.KernelIdeal.Mm1
public import proofs.«01_k».proof.Proof.KernelIdeal.Mm2
public import proofs.«01_k».proof.Proof.Gen.KernelIdeal.Launch
public import Idealize.ShloMosaic.Lib.Pipeline.RegionsLoop

@[expose] public section

noncomputable section

namespace Cert.KernelIdeal.Own

open Cert.KernelIdeal Cert.KernelIdeal.Gen

open Idealize.ShloMosaic
open Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat)

variable {F : FTy → Type} [FloatOps F] [∀ e, Nonempty (Elt F e)]

local notation "𝕄" => MT nD τ sig (HIx 1) (Elt F) ℕ UU ℕ

/-- Neither pipeline prefetches a table. -/
abbrev adm : (p : Fin 2) → (pcfgs (F := F) p).Adm := fun p => (cfgs p).toPCfg_adm

/-- Contents of every buffer a TensorCore names. -/
abbrev Contents (F : FTy → Type) : Type := (c : Dev nD) → (b : Ref sig .tc) → Buf (Elt F) ((c : Thread nD τ).loc b)

/-- The two pipelines' proof data: the first run from contents `V`, the second from contents `V'`. -/
def pdats (V V' : Contents F) : (p : Fin 2) → (c : Dev nD) → Dat τ (Elt F) (HIx 1) ℕ UU ℕ (Pipeline.pin (pcfgs (F := F)) adm p) c
  | 0 => Mm1.dat V
  | 1 => Mm2.dat V'

/-- What the core owes, nothing, beside recorded waits of level at most eight. -/
def recs (c : Dev nD) : sProp 𝕄 :=
  iprop(∃ W, ⌜(K (F := F)).WBelow (c : Thread nD τ) W 8⌝ ∗ owes (c : Thread nD τ) (0 : CellTallies nD τ sig (HIx 1)) W)

/-- Recorded waits of level at most eight stay so when a pipeline's own, of level zero, are added. -/
theorem below_of_bound {p : Fin 2} (c : Dev nD) (W : Waits sig (HIx 1))
    (h : (↑W : Set (SemLoc sig × HIx 1)) ⊆ {p | (K (F := F)).lev ((c : Thread nD τ), p.1) p.2 ≤ 8} ∪ (cfgs p).waitPairs none) :
    (K (F := F)).WBelow (c : Thread nD τ) W 8 := by
  intro q hq
  rcases h hq with h | ⟨w, s, h⟩
  · exact h
  · rw [h]; exact Nat.zero_le _

section One

variable (V V' Vp : Contents F)

set_option backward.isDefEq.respectTransparency.types false in
/-- The first matmul: from contents `V` to contents `Vp`, which differ from them in the hidden layer only. -/
def reg1 (hout : ∀ c, Vp c main_v4 = (Mm1.dat V c).arrAt 3 cfg1.N) (hne : ∀ c (b : Ref sig .tc), b ≠ main_v4 → Vp c b = V c b) :
    Pipeline.RegionSeg (pcfgs (F := F)) adm (pdats V V') none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (Mm1.body_obligation V c).loose
  hwaits := Pipeline.hwaits_of_owed_zero _ _ _ _ _ _ 0 fun _ _ => rfl
  pre c := iprop(unscopedBufs c (V c) ∗ recs c)
  post c := iprop(unscopedBufs c (Vp c) ∗ recs c)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (pdats V V') launch1.win launch1.arr_whole c
      ((pdats V V' 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold recs
      icases HO with ⟨%W, %hW, HO⟩
      iexists W
      isplitr; · ipureintro; exact fun q hq => Or.inl (hW q hq)
      iexact HO
    isplitr; · iempintro
    iexact Hrest
  hin c := by
    rw [show (pdats V V' 0 c).Φ 0 = (Mm1.dat V c).Φ 0 from rfl]
    iintro ⟨-, -, Hr⟩
    iapply (Mm1.enter V c) $$ Hr
  hout c := by
    rw [Pipeline.ownSems0_none, show (pdats V V' 0 c).Φ (Fin.last _) = (Mm1.dat V c).Φ (Fin.last cfg1.N) from rfl]
    iintro Hr
    ihave Hr := (Mm1.leave V c) $$ Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ)
      launch1.win launch1.arr_whole c (pdats V V') ((pdats V V' 0 c).share_full fun _ => rfl) (V c) (Vp c)
      ((pdats V V' 0 c).arrAt · cfg1.N)
      (fun w => by
        fin_cases w
        · exact ((pdats V V' 0 c).arrAt_in 0 rfl _).trans (hne c main_v2 (by decide)).symm
        · exact ((pdats V V' 0 c).arrAt_in 1 rfl _).trans (hne c main_arg2 (by decide)).symm
        · exact ((pdats V V' 0 c).arrAt_in 2 rfl _).trans (hne c main_v3 (by decide)).symm
        · exact (hout c).symm)
      (fun b hb => hne c b fun h => hb (h ▸ Finset.mem_image.mpr ⟨3, Finset.mem_univ _, rfl⟩))
    iintro ⟨Ha, HO, -, Hrest⟩
    imodintro
    isplitl [Ha Hrest]
    · iapply hjoin; isplitl [Ha] <;> iassumption
    unfold recs
    icases HO with ⟨%W, %hW, HO⟩
    iexists W
    isplitr; · ipureintro; exact below_of_bound (p := 0) c W hW
    iexact HO

set_option backward.isDefEq.respectTransparency.types false in
/-- The second matmul: from contents `V'` to contents `Vp`, which differ from them in the result only. -/
def reg2 (hout : ∀ c, Vp c main_v6 = (Mm2.dat V' c).arrAt 3 cfg2.N) (hne : ∀ c (b : Ref sig .tc), b ≠ main_v6 → Vp c b = V' c b) :
    Pipeline.RegionSeg (pcfgs (F := F)) adm (pdats V V') none defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (Mm2.body_obligation V' c).loose
  hwaits := Pipeline.hwaits_of_owed_zero _ _ _ _ _ _ 1 fun _ _ => rfl
  pre c := iprop(unscopedBufs c (V' c) ∗ recs c)
  post c := iprop(unscopedBufs c (Vp c) ∗ recs c)
  X _ := BI.emp
  Y _ := BI.emp
  Z c := Pipeline.unscopedRest (Ix := HIx 1) (Name := ℕ) (U := UU) (Lvl := ℕ) spec2 c (V' c)
  hentry c := by
    rw [Pipeline.ownSems0_none]
    have hsplit := Pipeline.arrays_of_unscopedBufs (p := 1) (pcfgs (F := F)) adm (pdats V V') launch2.win launch2.arr_whole c
      ((pdats V V' 1 c).share_full fun _ => rfl) (V' c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold recs
      icases HO with ⟨%W, %hW, HO⟩
      iexists W
      isplitr; · ipureintro; exact fun q hq => Or.inl (hW q hq)
      iexact HO
    isplitr; · iempintro
    iexact Hrest
  hin c := by
    rw [show (pdats V V' 1 c).Φ 0 = (Mm2.dat V' c).Φ 0 from rfl]
    iintro ⟨-, -, Hr⟩
    iapply (Mm2.enter V' c) $$ Hr
  hout c := by
    rw [Pipeline.ownSems0_none, show (pdats V V' 1 c).Φ (Fin.last _) = (Mm2.dat V' c).Φ (Fin.last cfg2.N) from rfl]
    iintro Hr
    ihave Hr := (Mm2.leave V' c) $$ Hr
    isplitr; · iempintro
    isplitr; · iempintro
    iexact Hr
  hexit c := by
    have hjoin := Pipeline.unscopedBufs_of_arrays (p := 1) (pcfgs (F := F)) adm (Ix := HIx 1) (Name := ℕ) (U := UU) (Lvl := ℕ)
      launch2.win launch2.arr_whole c (pdats V V') ((pdats V V' 1 c).share_full fun _ => rfl) (V' c) (Vp c)
      ((pdats V V' 1 c).arrAt · cfg2.N)
      (fun w => by
        fin_cases w
        · exact ((pdats V V' 1 c).arrAt_in 0 rfl _).trans (hne c main_v4 (by decide)).symm
        · exact ((pdats V V' 1 c).arrAt_in 1 rfl _).trans (hne c main_arg4 (by decide)).symm
        · exact ((pdats V V' 1 c).arrAt_in 2 rfl _).trans (hne c main_v5 (by decide)).symm
        · exact (hout c).symm)
      (fun b hb => hne c b fun h => hb (h ▸ Finset.mem_image.mpr ⟨3, Finset.mem_univ _, rfl⟩))
    iintro ⟨Ha, HO, -, Hrest⟩
    imodintro
    isplitl [Ha Hrest]
    · iapply hjoin; isplitl [Ha] <;> iassumption
    unfold recs
    icases HO with ⟨%W, %hW, HO⟩
    iexists W
    isplitr; · ipureintro; exact below_of_bound (p := 1) c W hW
    iexact HO

end One

end Cert.KernelIdeal.Own

end
-- ==== Proof.KernelIdeal.Run.lean ====
/-
  The whole run of `KernelIdeal`: @main's contents step by step, from the launch memory to the result, and the
  theorem that every run ends with the arguments unchanged, the result at its computed value and every
  semaphore at zero.
-/
module

public import proofs.«01_k».proof.Proof.KernelIdeal.Regions
public import Idealize.ShloMosaic.Lib.ReduceAll

@[expose] public section

noncomputable section

namespace Cert.KernelIdeal.Own

open Cert.KernelIdeal Cert.KernelIdeal.Gen

open Idealize.ShloMosaic
open Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat)
open Idealize.ShloMosaic.StableHlo (held launchContents)

variable {F : FTy → Type} [FloatOps F] [∀ e, Nonempty (Elt F e)]

local notation "𝕄" => MT nD τ sig (HIx 1) (Elt F) ℕ UU ℕ

/-! ## The contents of the buffers, step by step -/

variable (m : (ℓ : Loc nD τ sig) → Buf (Elt F) ℓ)

/-- After the row numbers have been laid out in one line. -/
def W1 (d : Dev nD) : Valuation τ sig (Elt F) :=
  (StableHlo.reshape main_arg0 main_v0 (rfl : (.i32 : EltTy) = .i32) shapeCasts_S1024x50_S51200).result (launchContents m d)

/-- The row numbers in one line. -/
def nums (d : Dev nD) : S51200.Idx → Elt F .i32 := W1 m d main_v0
/-- The table. -/
def table (d : Dev nD) : S100000x128.Idx → Elt F .f32 := W1 m d main_arg1

variable (hib : ∀ d j, (nums m d j).toNat < 100000)

/-- After the SparseCore call: its result array holds the rows named. -/
def W2 (d : Dev nD) : Valuation τ sig (Elt F) :=
  Function.update (W1 m d) (main_v1 : DevRef τ sig) (gathered (table m d) (nums m d) (hib d))
/-- After the gathered rows have been laid out fifty to a line. -/
def W3 (d : Dev nD) : Valuation τ sig (Elt F) :=
  (StableHlo.reshape main_v1 main_v2 (rfl : (.f32 : EltTy) = .f32) shapeCasts_S51200x128_S1024x6400).result (W2 m hib d)
/-- After the first bias has been made a row. -/
def W4 (d : Dev nD) : Valuation τ sig (Elt F) :=
  (StableHlo.reshape main_arg3 main_v3 (rfl : (.f32 : EltTy) = .f32) shapeCasts_S4096_S1x4096).result (W3 m hib d)
/-- The contents the first matmul is entered from. -/
def V1 : Contents F := fun d b => W4 m hib d b
/-- After the first matmul: the hidden layer is what its write-backs left. -/
def W5 (d : Dev nD) : Valuation τ sig (Elt F) :=
  Function.update (W4 m hib d) (main_v4 : DevRef τ sig) ((Mm1.dat (V1 m hib) d).arrAt 3 cfg1.N)
/-- After the second bias has been made a row. -/
def W6 (d : Dev nD) : Valuation τ sig (Elt F) :=
  (StableHlo.reshape main_arg5 main_v5 (rfl : (.f32 : EltTy) = .f32) shapeCasts_S4096_S1x4096).result (W5 m hib d)
/-- The contents the second matmul is entered from. -/
def V2 : Contents F := fun d b => W6 m hib d b
/-- After the second matmul: the result is what its write-backs left. -/
def W7 (d : Dev nD) : Valuation τ sig (Elt F) :=
  Function.update (W6 m hib d) (main_v6 : DevRef τ sig) ((Mm2.dat (V2 m hib) d).arrAt 3 cfg2.N)

/-- The result the run leaves. -/
def result (d : Dev nD) : Buf (Elt F) ((d.tc : Thread nD τ).loc main_v6) := (Mm2.dat (V2 m hib) d).arrAt 3 cfg2.N

/-- A buffer no step writes ends as it was at launch. -/
theorem W7_arg (d : Dev nD) (b : Ref sig .tc)
    (h : b ≠ main_v0 ∧ b ≠ main_v1 ∧ b ≠ main_v2 ∧ b ≠ main_v3 ∧ b ≠ main_v4 ∧ b ≠ main_v5 ∧ b ≠ main_v6) :
    W7 m hib d b = m ((d.tc : Thread nD τ).loc b) := by
  obtain ⟨h0, h1, h2, h3, h4, h5, h6⟩ := h
  have ne {x y : Ref sig .tc} (h : x ≠ y) : (x : DevRef τ sig) ≠ (y : DevRef τ sig) := StableHlo.devRef_ne_of_ne h
  unfold W7
  rw [Function.update_of_ne (ne h6)]
  unfold W6
  rw [StableHlo.reshape_result_ne (h := h5)]
  unfold W5
  rw [Function.update_of_ne (ne h4)]
  unfold W4
  rw [StableHlo.reshape_result_ne (h := h3)]
  unfold W3
  rw [StableHlo.reshape_result_ne (h := h2)]
  unfold W2
  rw [Function.update_of_ne (ne h1)]
  unfold W1
  rw [StableHlo.reshape_result_ne (h := h0)]

/-- The result buffer ends at the result. -/
theorem W7_result (d : Dev nD) : W7 m hib d main_v6 = result m hib d := Function.update_self _ _ _

/-! ## The buffers a TensorCore holds between steps -/

/-- The unscoped buffers a TensorCore names. -/
def bufs : Finset (DevRef τ sig) := (StableHlo.tcRefs τ sig).filter fun b => ¬ b.isScoped

/-- The unscoped buffers at contents `W` are that set held at `W`. -/
theorem unscoped_held (d : Dev nD) (W : Valuation τ sig (Elt F)) :
    (unscopedBufs d (fun b => W b) : sProp 𝕄) = held (SparseCore.T d) bufs W := by
  unfold unscopedBufs held bufs StableHlo.tcRefs
  rw [Finset.filter_map, bigSep_map]
  rfl

theorem mem_bufs (b : Ref sig .tc) (h : b.isScoped = false) : (b : DevRef τ sig) ∈ bufs := by
  refine Finset.mem_filter.mpr ⟨StableHlo.devRef_mem_tcRefs b, ?_⟩
  rw [show (b : DevRef τ sig).isScoped = b.isScoped from rfl, h]
  exact Bool.false_ne_true

/-- The three buffers the SparseCore call works on. -/
def callBufs : Finset (DevRef τ sig) := {(main_v0 : DevRef τ sig), (main_arg1 : DevRef τ sig), (main_v1 : DevRef τ sig)}

theorem callBufs_sub : callBufs ⊆ bufs := by
  intro b hb
  simp only [callBufs, Finset.mem_insert, Finset.mem_singleton] at hb
  rcases hb with rfl | rfl | rfl <;> exact mem_bufs _ (by decide)

/-- Holding the three is holding each. -/
theorem held_callBufs (d : Dev nD) (W : Valuation τ sig (Elt F)) :
    (held (SparseCore.T d) callBufs W : sProp 𝕄)
      = iprop((iLoc d ↦{fullShare} W main_v0) ∗ (xLoc d ↦{fullShare} W main_arg1) ∗ oLoc d ↦{fullShare} W main_v1) := by
  unfold held callBufs
  rw [SparseCore.bigSep_insert' (by decide), SparseCore.bigSep_insert' (by decide), bigSep_singleton]

/-- Off the three the call changes nothing. -/
theorem held_rest (d : Dev nD) :
    (held (SparseCore.T d) (bufs \ callBufs) (W2 m hib d) : sProp 𝕄) = held (SparseCore.T d) (bufs \ callBufs) (W1 m d) := by
  refine StableHlo.held_congr _ fun b hb => ?_
  unfold W2
  refine Function.update_of_ne (fun h => (Finset.mem_sdiff.mp hb).2 ?_) _ _
  rw [h]
  simp [callBufs]

/-! ## The launch -/

/-- The launch's ghost state: the handshakes' rounds, the two pipelines' cells and tokens, no counter used. -/
def u₀ : UU :=
  (initOf (K (F := F)).hsCells (K (F := F)).hsToks,
    (initOf (Pipeline.cells (nD := nD) (τ := τ) cfgs cellOf_inj) (Pipeline.launchToks cfgs cellOf_inj), 1))

/-- A core's share of it: both pipelines' cells and tokens. -/
def G (d : Dev nD) : sProp 𝕄 :=
  iprop((bigSep Finset.univ fun p : Fin 2 => Pipeline.cellsGhost cfgs EP p d) ∗ bigSep Finset.univ fun p : Fin 2 => Pipeline.toksInit cfgs EP p d)

/-- The launch's payments. -/
abbrev PP : (K (F := F)).Pay (nD := nD) (Val := Elt F) (Name := ℕ) (U := UU) :=
  P (nums m) (table m) (fun d => W1 m d main_v1) hib

/-- The pipelines' part of the launch's ghost state, as the pipelines name it. -/
theorem own_pipelines (a : UP) :
    (BI.own ((embR : Emb (UP × Counters) (MT nD τ sig (HIx 1) (Elt F) ℕ UU ℕ)) (a, 1)) : sProp 𝕄) ⊢ BI.own ((EP : Emb UP 𝕄) a) := by
  unfold EP; exact BIBase.Entails.rfl

theorem hu₀ : (ownU (u₀ (F := F)) : sProp 𝕄) ⊢ |={Set.univ}=>
    iprop(BI.own (EH (initOf (K (F := F)).hsCells (K (F := F)).hsToks)) ∗ bigSep Finset.univ (G (F := F))
      ∗ bigSep Finset.univ fun thr : Thread nD τ => bigSep Finset.univ fun q : Fin 1 => (PP m hib).x q thr) := by
  unfold u₀
  iintro Hu
  ihave Hu := (ownU_pair _ _) $$ Hu
  icases Hu with ⟨Hh, Hp⟩
  ihave Hp := (own_pipelines _) $$ Hp
  imod (Pipeline.fund_ghost cfgs EP cellOf_inj) $$ Hp with ⟨Hc, Ht⟩
  imodintro
  isplitl [Hh]; · iexact Hh
  isplitl [Hc Ht]
  · rw [show (bigSep Finset.univ (G (F := F)) : sProp 𝕄)
        = iprop((bigSep Finset.univ fun d : Dev nD => bigSep Finset.univ fun p : Fin 2 => Pipeline.cellsGhost cfgs EP p d)
          ∗ bigSep Finset.univ fun d : Dev nD => bigSep Finset.univ fun p : Fin 2 => Pipeline.toksInit cfgs EP p d) from bigSep_sep' _ _ _]
    isplitl [Hc] <;> iassumption
  rw [show (bigSep Finset.univ fun thr : Thread nD τ => bigSep Finset.univ fun q : Fin 1 => (PP m hib).x q thr)
      = bigSep Finset.univ fun _ => (BI.emp : sProp 𝕄) from bigSep_congr fun _ _ => bigSep_univ_of_subsingleton (0 : Fin 1), bigSep_emp_const]
  iempintro

/-- A pipeline's call in @main, which names it among the SparseCore's: the region it is. -/
theorem region_call {V V' : Contents F} {p : Fin 2}
    (R : Pipeline.RegionSeg (pcfgs (F := F)) adm (pdats V V') none defs₀ 𝒱₀ (K (F := F)).L (K (F := F)).lev p)
    (d : Dev nD) (Φ : PUnit → sProp 𝕄) :
    iprop((iprop(boundary (SparseCore.T d) ∗ R.post d) -∗ Φ ⟨⟩) ∗ boundary (SparseCore.T d) ∗ R.pre d
        ∗ levAts (K (F := F)).L (K (F := F)).lev ∗ Pipeline.cellsGhost cfgs EP p d ∗ Pipeline.toksInit cfgs EP p d)
      ⊢ wp frame (wpE ((K (F := F)).defs (D (F := F))) 𝒱 (SparseCore.T d) none) Set.univ
          (Prog.lift (.customCall (SparseCore.inner (Pipeline.entry p)) ())) Φ := by
  refine BIBase.Entails.trans ?_ ((K (F := F)).wp_liftProg (D (F := F)) 𝒱 (SparseCore.T d) Set.univ none
    (Prog.lift (.customCall (Pipeline.entry p) ())) Φ)
  refine BIBase.Entails.trans ?_ (Pipeline.RegionSeg.wp (pcfgs (F := F)) adm (pdats V V') none cellOf_inj EP defs₀ 𝒱₀ (K (F := F)).L (K (F := F)).lev
    R d none (fun _ h => nomatch h) _ Φ)
  refine sep_mono_left (wand_mono_right ?_)
  iintro H
  rw [wp_ret]
  imodintro
  iexact H

/-- A reshape in @main, from contents `W` to the contents `W'` it makes of them. -/
theorem reshape_call (x y : Ref sig .tc) (he : x.ty.elt = y.ty.elt) (hn : x.ty.shape.ShapeCasts y.ty.shape)
    (hx : x.space ≠ .host ∧ (x : DevRef τ sig).isScoped = false) (hy : y.space ≠ .host ∧ (y : DevRef τ sig).isScoped = false)
    (W W' : Valuation τ sig (Elt F)) (h : (StableHlo.reshape x y he hn hx hy : HloOp τ sig (Elt F)).result W = W')
    (d : Dev nD) (Φ : PUnit → sProp 𝕄) :
    iprop((iprop(boundary (SparseCore.T d) ∗ held (SparseCore.T d) bufs W') -∗ Φ ⟨⟩) ∗ boundary (SparseCore.T d) ∗ held (SparseCore.T d) bufs W)
      ⊢ wp frame (wpE ((K (F := F)).defs (D (F := F))) 𝒱 (SparseCore.T d) none) Set.univ
          (hlo rfl (StableHlo.reshape x y he hn hx hy) fun _ => .ret ⟨⟩) Φ := by
  have hS : (StableHlo.reshape x y he hn hx hy : HloOp τ sig (Elt F)).bufs ⊆ bufs := by
    intro b hb
    rw [StableHlo.reshape_bufs, Finset.mem_insert, Finset.mem_singleton] at hb
    rcases hb with rfl | rfl
    · exact mem_bufs _ hx.2
    · exact mem_bufs _ hy.2
  iintro ⟨Hk, Hb, Hh⟩
  iapply (StableHlo.wp_hlo_within 𝒱 (SparseCore.T d) none Set.univ hS (V := W)) $$ [Hb Hh]
  · isplitl [Hb] <;> iassumption
  rw [h]
  iintro H
  rw [wp_ret]
  imodintro
  iapply Hk $$ H

/-- The call's buffers beside the rest are the buffers before it. -/
theorem before_call (d : Dev nD) :
    (held (SparseCore.T d) bufs (W1 m d) : sProp 𝕄)
      = iprop(((iLoc d ↦{fullShare} nums m d) ∗ (xLoc d ↦{fullShare} table m d) ∗ oLoc d ↦{fullShare} W1 m d main_v1)
        ∗ held (SparseCore.T d) (bufs \ callBufs) (W1 m d)) := by
  rw [StableHlo.held_sub_split (SparseCore.T d) callBufs_sub, held_callBufs]
  rfl

/-- After the call the core owes nothing, its recorded waits no higher than the call's. -/
theorem recs_of_call (d : Dev nD) :
    iprop(∃ W, ⌜(K (F := F)).WBelow (SparseCore.T d) W (8 * SparseCore.Cfg.Blocks.fst 1 1 ((0 : Fin 1).val + 1))⌝ ∗ owes (SparseCore.T d) ((K (F := F)).Otc d ((0 : Fin 1).val + 1)) W)
      ⊢ (recs (F := F) d : sProp 𝕄) := by
  rw [(K (F := F)).Otc_end d (show 1 ≤ (0 : Fin 1).val + 1 from le_refl 1)]
  exact .rfl

theorem call_of_recs (d : Dev nD) :
    (recs (F := F) d : sProp 𝕄)
      ⊢ iprop(∃ W, ⌜(K (F := F)).WBelow (SparseCore.T d) W (8 * SparseCore.Cfg.Blocks.fst 1 1 1)⌝ ∗ owes (SparseCore.T d) ((K (F := F)).Otc d 1) W) := by
  rw [(K (F := F)).Otc_end d (le_refl 1)]
  exact .rfl

/-- The call's results beside the rest are the buffers after it. -/
theorem after_call (d : Dev nD) :
    (held (SparseCore.T d) bufs (W2 m hib d) : sProp 𝕄)
      = iprop(((iLoc d ↦{fullShare} nums m d) ∗ (xLoc d ↦{fullShare} table m d) ∗ oLoc d ↦{fullShare} gathered (table m d) (nums m d) (hib d))
        ∗ held (SparseCore.T d) (bufs \ callBufs) (W1 m d)) := by
  have h0 : W2 m hib d main_v0 = nums m d := Function.update_of_ne (by decide) _ _
  have h1 : W2 m hib d main_arg1 = table m d := Function.update_of_ne (by decide) _ _
  have h2 : W2 m hib d main_v1 = gathered (table m d) (nums m d) (hib d) := Function.update_self _ _ _
  rw [StableHlo.held_sub_split (SparseCore.T d) callBufs_sub, held_callBufs, held_rest, h0, h1, h2]

/-- What a device's core ends holding: the arguments as launched and the result. -/
def endBufs : Finset (DevRef τ sig) :=
  {(main_arg0 : DevRef τ sig), (main_arg1 : DevRef τ sig), (main_arg2 : DevRef τ sig), (main_arg3 : DevRef τ sig), (main_arg4 : DevRef τ sig),
    (main_arg5 : DevRef τ sig), (main_v6 : DevRef τ sig)}

theorem endBufs_sub : endBufs ⊆ bufs := by
  intro b hb
  simp only [endBufs, Finset.mem_insert, Finset.mem_singleton] at hb
  rcases hb with rfl | rfl | rfl | rfl | rfl | rfl | rfl <;> exact mem_bufs _ (by decide)

/-- The hidden layer is where the first region leaves its result, and the rest of the contents are untouched. -/
def R1 := reg1 (V1 m hib) (V2 m hib) (fun d b => W5 m hib d b) (fun _ => Function.update_self _ _ _)
  (fun _ _ h => Function.update_of_ne (StableHlo.devRef_ne_of_ne h) _ _)
/-- Likewise the second, at the result. -/
def R2 := reg2 (V1 m hib) (V2 m hib) (fun d b => W7 m hib d b) (fun _ => Function.update_self _ _ _)
  (fun _ _ h => Function.update_of_ne (StableHlo.devRef_ne_of_ne h) _ _)

/-- The first matmul's call in @main. -/
theorem call1 (d : Dev nD) (Φ : PUnit → sProp 𝕄) :
    iprop((iprop(boundary (SparseCore.T d) ∗ held (SparseCore.T d) bufs (W5 m hib d) ∗ recs d) -∗ Φ ⟨⟩) ∗ boundary (SparseCore.T d)
        ∗ (held (SparseCore.T d) bufs (W4 m hib d) ∗ recs d)
        ∗ levAts (K (F := F)).L (K (F := F)).lev ∗ Pipeline.cellsGhost cfgs EP 0 d ∗ Pipeline.toksInit cfgs EP 0 d)
      ⊢ wp frame (wpE ((K (F := F)).defs (D (F := F))) 𝒱 (SparseCore.T d) none) Set.univ
          (Prog.lift (.customCall (SparseCore.inner (Pipeline.entry 0)) ())) Φ := by
  rw [← unscoped_held, ← unscoped_held]
  exact region_call (R1 m hib) d Φ

/-- The second matmul's call in @main. -/
theorem call2 (d : Dev nD) (Φ : PUnit → sProp 𝕄) :
    iprop((iprop(boundary (SparseCore.T d) ∗ held (SparseCore.T d) bufs (W7 m hib d) ∗ recs d) -∗ Φ ⟨⟩) ∗ boundary (SparseCore.T d)
        ∗ (held (SparseCore.T d) bufs (W6 m hib d) ∗ recs d)
        ∗ levAts (K (F := F)).L (K (F := F)).lev ∗ Pipeline.cellsGhost cfgs EP 1 d ∗ Pipeline.toksInit cfgs EP 1 d)
      ⊢ wp frame (wpE ((K (F := F)).defs (D (F := F))) 𝒱 (SparseCore.T d) none) Set.univ
          (Prog.lift (.customCall (SparseCore.inner (Pipeline.entry 1)) ())) Φ := by
  rw [← unscoped_held, ← unscoped_held]
  exact region_call (R2 m hib) d Φ

variable (ρ : Dev nD → PrngReg)

/-- @main on a device's core: from the launch's buffers to the last step's contents. -/
theorem hmain (κ : GSem nD τ sig → ℕ) (d : Dev nD) :
    iprop((K (F := F)).ctx EH (PP m hib) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ held (SparseCore.T d) bufs (W7 m hib d) ∗ (K (F := F)).tcEnd d) := by
  unfold SparseCore.Cfg.tcRes SparseCore.Cfg.tcEnd G
  rw [show (unscopedBufs d (fun b => m ((SparseCore.T d).loc b)) : sProp 𝕄) = held (SparseCore.T d) bufs (launchContents m d) from
    unscoped_held d (launchContents m d), bigSep_univ_two, bigSep_univ_two]
  simp only [main, wp_bind, wp_pure]
  iintro ⟨#Hctx, Hst, ⟨Hb, Hh, Hts, -⟩, ⟨Hg0, Hg1⟩, Ht0, Ht1⟩
  ihave #Hlev := ((K (F := F)).ctx_levAts κ) $$ Hctx
  iapply (reshape_call main_arg0 main_v0 _ _ _ _ (launchContents m d) (W1 m d) rfl d _) $$ [-]
  isplitr [Hb Hh]; swap
  · isplitl [Hb] <;> iassumption
  iintro ⟨Hb, Hh⟩
  ihave Hh := (Entails.of_eq (before_call m d)) $$ Hh
  icases Hh with ⟨⟨Hi, Hx, Ho⟩, Hrest⟩
  iapply ((K (F := F)).wp_run (D (F := F)) 𝒱 (EH := EH) (P := PP m hib) κ d 0) $$ [-]
  isplitr; · iexact Hctx
  isplitl [Hst]; · iexact Hst
  isplitl [Hi Hx Ho]
  · iapply (Entails.of_eq (call_in (nums m) (table m) (fun d => W1 m d main_v1) hib d).symm)
    isplitl [Hi]; · iexact Hi
    isplitl [Hx]; · iexact Hx
    iexact Ho
  iintro ⟨Hst, Hdn⟩
  ihave Hdn := (Entails.of_eq (call_out (nums m) (table m) (fun d => W1 m d main_v1) hib d)) $$ Hdn
  ihave Hh := (Entails.of_eq (after_call m hib d).symm) $$ [Hdn Hrest]
  · isplitl [Hdn] <;> iassumption
  iapply (reshape_call main_v1 main_v2 _ _ _ _ (W2 m hib d) (W3 m hib d) rfl d _) $$ [-]
  isplitr [Hb Hh]; swap
  · isplitl [Hb] <;> iassumption
  iintro ⟨Hb, Hh⟩
  iapply (reshape_call main_arg3 main_v3 _ _ _ _ (W3 m hib d) (W4 m hib d) rfl d _) $$ [-]
  isplitr [Hb Hh]; swap
  · isplitl [Hb] <;> iassumption
  iintro ⟨Hb, Hh⟩
  unfold SparseCore.Cfg.tcSt
  icases Hst with ⟨Ho, Hst⟩
  iapply (call1 m hib d _) $$ [-]
  isplitr [Hb Hh Ho Hg0 Ht0]; swap
  · isplitl [Hb]; · iexact Hb
    isplitl [Hh Ho]
    · isplitl [Hh]
      · iexact Hh
      · iapply (recs_of_call d) $$ Ho
    isplitr; · iexact Hlev
    isplitl [Hg0] <;> iassumption
  iintro ⟨Hb, Hh, Ho⟩
  iapply (reshape_call main_arg5 main_v5 _ _ _ _ (W5 m hib d) (W6 m hib d) rfl d _) $$ [-]
  isplitr [Hb Hh]; swap
  · isplitl [Hb] <;> iassumption
  iintro ⟨Hb, Hh⟩
  iapply (call2 m hib d _) $$ [-]
  isplitr [Hb Hh Ho Hg1 Ht1]; swap
  · isplitl [Hb]; · iexact Hb
    isplitl [Hh Ho]
    · isplitl [Hh]
      · iexact Hh
      · iexact Ho
    isplitr; · iexact Hlev
    isplitl [Hg1] <;> iassumption
  iintro ⟨Hb, Hh, Ho⟩
  ihave Ho := (call_of_recs d) $$ Ho
  imodintro
  isplitl [Hst Ho]
  · isplitl [Ho]; · iexact Ho
    iexact Hst
  isplitl [Hh]; · iexact Hh
  isplitl [Hb] <;> iassumption

/-! ## The claims of the run -/

/-- What a device's memory holds at the end: the arguments as launched, the result computed. -/
def fq (d : Dev nD) (s' : Phys nD τ sig (Elt F)) : Prop := ∀ b ∈ endBufs, s'.mem.mem (d, b) = W7 m hib d b

/-- Buffers held beside the machine's state say what its memory holds. -/
theorem held_agree (d : Dev nD) (W : Valuation τ sig (Elt F)) (S : Finset (DevRef τ sig)) (s' : Phys nD τ sig (Elt F)) :
    iprop(held (SparseCore.T d) S W ∗ SI s') ⊢ (⌜∀ b ∈ S, s'.mem.mem (d, b) = W b⌝ : sProp 𝕄) := by
  induction S using Finset.induction_on with
  | empty => iintro -; ipureintro; exact fun b hb => absurd hb (Finset.notMem_empty b)
  | insert a S ha ih =>
    unfold held at ih ⊢
    rw [SparseCore.bigSep_insert' ha]
    iintro ⟨⟨Ha, HS⟩, HSI⟩
    ihave H := (persistent_entails_right (SI_pointsTo_agree (st := s') (ℓ := ((SparseCore.T d : Thread nD τ).1, a)) (I := Finset.univ) (q := fullShare) (f := W a))) $$ [HSI Ha]
    · isplitl [HSI] <;> iassumption
    icases H with ⟨%h1, HSI, -⟩
    ihave H := ih $$ [HS HSI]
    · isplitl [HS] <;> iassumption
    icases H with %h2
    ipureintro
    intro b hb
    rcases Finset.mem_insert.mp hb with rfl | hb
    · exact funext fun i => h1 i (Finset.mem_univ i)
    · exact h2 b hb

theorem hfin (d : Dev nD) (s' : Phys nD τ sig (Elt F)) :
    iprop(held (SparseCore.T d) bufs (W7 m hib d) ∗ SI s') ⊢ (⌜fq m hib d s'⌝ : sProp 𝕄) := by
  iintro H
  ihave %h := (held_agree d (W7 m hib d) bufs s') $$ H
  ipureintro
  exact fun b hb => h b (endBufs_sub hb)

/-- Every run ends with the arguments as launched, the result computed and every semaphore at zero. -/
theorem run_main :
    θ_run (Cert.KernelIdeal.defs (F := F)) (Cert.KernelIdeal.threads (F := F)) ⟨m, fun _ => 0, ρ⟩
      (fun r => (∀ d : Dev nD, ∀ b ∈ endBufs, r.2.mem (d, b) = W7 m hib d b) ∧ r.2.sem = fun _ => 0) :=
  SparseCore.Cfg.θ_run_sc_quiescent (K := K (F := F)) (D := D (F := F)) (𝒱 := 𝒱) (EH := EH) (P := PP m hib) (A := ∅) facts v₀
    (fun q hq => match q with | 0 => nomatch hq)
    (fun q _ => match q with | 0 => tileObl (nums m) (table m) (fun d => W1 m d main_v1) hib facts)
    (fun q _ => match q with | 0 => SparseCore.Cfg.VecSplit.of_plain (vecSplit (nums m) (table m) (fun d => W1 m d main_v1) hib))
    m ρ main (G (F := F)) (fun d => held (SparseCore.T d) bufs (W7 m hib d)) (u₀ (F := F)) (sep_elim_left.trans (hu₀ m hib))
    (hmain m hib ρ) (fq m hib) (hfin m hib) _ (fun _ h hz => ⟨h, hz⟩)

/-- An argument at the end of a run is as it was launched. -/
theorem end_arg (d : Dev nD) (b : Ref sig .tc) (x : Buf (Elt F) ((d.tc : Thread nD τ).loc b)) (hx : x = W7 m hib d b)
    (h : b ≠ main_v0 ∧ b ≠ main_v1 ∧ b ≠ main_v2 ∧ b ≠ main_v3 ∧ b ≠ main_v4 ∧ b ≠ main_v5 ∧ b ≠ main_v6) :
    x = m ((d.tc : Thread nD τ).loc b) := hx.trans (W7_arg m hib d b h)

/-! ## The precondition -/

/-- A word that is at least zero and below `V` as a signed number is below `V` as a natural one. -/
theorem word_in_table (v : BitVec 32) (e : IntOp.andi (IntOp.cmpi .sge v 0#32) (IntOp.cmpi .slt v 100000#32) = 1#1) : v.toNat < 100000 := by
  have both (p q : Bool) : IntOp.andi (BitVec.ofBool p) (BitVec.ofBool q) = 1#1 → p = true ∧ q = true := by
    cases p <;> cases q <;> decide
  obtain ⟨h1, h2⟩ := both _ _ e
  simp only [BitVec.sle_eq_decide, BitVec.slt_eq_decide, decide_eq_true_eq, BitVec.toInt_eq_toNat_cond, BitVec.toNat_ofNat,
    Nat.reducePow, Nat.reduceMod] at h1 h2
  omega

/-- Row numbers all inside the table stay so laid out in one line. -/
theorem nums_in_table (h : ∀ (d : Dev nD) (j : S1024x50.Idx),
      ((m ((d.tc : Thread nD τ).loc main_arg0) : S1024x50.Idx → BitVec 32) j).toNat < 100000) (d : Dev nD) (j : S51200.Idx) :
    (nums m d j).toNat < 100000 := by
  unfold nums W1
  rw [StableHlo.reshape_result]
  exact h d _

end Cert.KernelIdeal.Own

end
-- ==== Proof.KernelIdeal.Layer1.lean ====
/-
  The first matmul of `KernelIdeal` over the extended reals: what its pipeline leaves in the hidden layer, as one
  product over all 6400 columns, a bias and a maximum with zero.
-/
module

public import proofs.«01_k».proof.Proof.KernelIdeal.Mm1
public import Idealize.ShloMosaic.Lib.Pipeline.ValueKit

@[expose] public section

set_option maxRecDepth 16384

noncomputable section

namespace Cert.KernelIdeal.Own.Mm1

open Cert.KernelIdeal Cert.KernelIdeal.Gen

open Idealize.ShloMosaic
open Idealize.ShloMosaic.TcCoe
open Idealize.SL.Sem
open Idealize.ShloMosaic.Pipeline (Dat)

variable (V : (c : Dev nD) → (b : Ref sig .tc) → Buf (Elt Ideal) ((c : Thread nD τ).loc b))

/-- The windows' blocks: point `t` is column block `t / 10`, step `t % 10`. -/
theorem idx : ∀ t : Fin cfg1.N, win1_0.index t = ![0, t.val % 10] ∧ win1_1.index t = ![t.val % 10, t.val / 10]
    ∧ win1_2.index t = ![0, t.val / 10] ∧ win1_3.index t = ![0, t.val / 10] :=
  (by decide +kernel : ∀ t : Fin grid1.N, _)

/-- One step at an entry: the partial product added to what the scratch holds. -/
theorem pay2_at (s : FVec Ideal S1024x2048 .f32) (x : FVec Ideal S1024x640 .f32) (w : FVec Ideal S640x2048 .f32) (y : S1024x2048.Idx) :
    k1_pay2 s x w y = s y + ∑ k : Fin 640, x (ix2 (y 0) k) * w (ix2 k (y 1)) := by
  pointwise [k1_pay2]

/-- The scratch is cleared to zero. -/
theorem pay1_at (y : S1024x2048.Idx) : (k1_pay1 : FVec Ideal S1024x2048 .f32) y = 0 := by
  pointwise [k1_pay1]

/-- The hidden layer from the activations, the weights and the bias. -/
def layer (X : FVec Ideal S1024x6400 .f32) (Wt : FVec Ideal S6400x4096 .f32) (B : FVec Ideal S1x4096 .f32) : FVec Ideal S1024x4096 .bf16 :=
  fun i => max ((∑ k : Fin 6400, X (ix2 (i 0) k) * Wt (ix2 k (i 1))) + B (ix2 0 (i 1))) 0

/-- The last step's block at an entry: bias, then the maximum with zero. -/
theorem pay3_at (s : FVec Ideal S1024x2048 .f32) (b : FVec Ideal S1x2048 .f32) (y : S1024x2048.Idx) :
    @Eq EReal (k1_pay3 (F := Ideal) s b y) (max (s y + b (ix2 0 (y 1))) 0) := by
  pointwise [k1_pay3]

/-- The activations' block at point `t`. -/
theorem block0_at (c : Dev nD) (t : Fin cfg1.N) (y : S1024x2048.Idx) (k : Fin 640) :
    blockAt V c 0 t (ix2 (y 0) k) = V c main_v2 (ix2 (y 0) ⟨(t.val % 10) * 640 + k, by omega⟩) := by
  blk_ext [blockAt, idx t]

/-- The weights' block at point `t`. -/
theorem block1_at (c : Dev nD) (t : Fin cfg1.N) (y : S1024x2048.Idx) (k : Fin 640) (i : S1024x4096.Idx)
    (hi : (i 1).val = t.val / 10 * 2048 + (y 1).val) :
    blockAt V c 1 t (ix2 k (y 1)) = V c main_arg2 (ix2 ⟨(t.val % 10) * 640 + k, by omega⟩ (i 1)) := by
  blk_ext [blockAt, idx t]

/-- The bias's block at point `t`. -/
theorem block2_at (c : Dev nD) (t : Fin cfg1.N) (y : S1024x2048.Idx) (i : S1024x4096.Idx)
    (hi : (i 1).val = t.val / 10 * 2048 + (y 1).val) :
    blockAt V c 2 t (ix2 0 (y 1)) = V c main_v3 (ix2 0 (i 1)) := by
  blk_ext [blockAt, idx t]

/-- The activations, the weights and the bias, as the pipeline finds them. -/
abbrev acts (c : Dev nD) : FVec Ideal S1024x6400 .f32 := V c main_v2
abbrev weights (c : Dev nD) : FVec Ideal S6400x4096 .f32 := V c main_arg2
abbrev bias (c : Dev nD) : FVec Ideal S1x4096 .f32 := V c main_v3
/-- The first two's blocks at point `n`. -/
abbrev actsAt (c : Dev nD) (n : ℕ) : FVec Ideal S1024x640 .f32 := blockAt V c 0 (pt n)
abbrev weightsAt (c : Dev nD) (n : ℕ) : FVec Ideal S640x2048 .f32 := blockAt V c 1 (pt n)

/-- What point `n` adds to the scratch at an entry. -/
def term (c : Dev nD) (y : S1024x2048.Idx) (n : ℕ) : Ideal .f32 :=
  ∑ k : Fin 640, actsAt V c n (ix2 (y 0) k) * weightsAt V c n (ix2 k (y 1))

/-- The scratch after point `n`: the terms of its column block so far. -/
theorem acc_at (c : Dev nD) (y : S1024x2048.Idx) (n : ℕ) :
    acc (F := Ideal) V c n y = ∑ j ∈ Finset.range (n % 10 + 1), term V c y (n / 10 * 10 + j) := by
  induction n with
  | zero =>
    show k1_pay2 k1_pay1 (blockAt V c 0 (pt 0)) (blockAt V c 1 (pt 0)) y = _
    rw [pay2_at, pay1_at, zero_add, Finset.sum_range_one]
    rfl
  | succ n ih =>
    show k1_pay2 (if (n + 1) % 10 = 0 then k1_pay1 else acc V c n) (blockAt V c 0 (pt (n + 1))) (blockAt V c 1 (pt (n + 1))) y = _
    rw [pay2_at]
    by_cases h : (n + 1) % 10 = 0
    · rw [if_pos h, pay1_at, zero_add, h, Finset.sum_range_one, show (n + 1) / 10 * 10 + 0 = n + 1 by omega]
      rfl
    · rw [if_neg h, ih, show (n + 1) % 10 = n % 10 + 1 by omega, show (n + 1) / 10 = n / 10 by omega, Finset.sum_range_succ _ (n % 10 + 1),
        show n / 10 * 10 + (n % 10 + 1) = n + 1 by omega]
      rfl

/-- After a column block's last point the scratch holds the whole product. -/
theorem acc_last (c : Dev nD) (t : Fin cfg1.N) (ht : t.val % 10 = 9) (y : S1024x2048.Idx) (i : S1024x4096.Idx)
    (h0 : (i 0).val = (y 0).val) (h1 : (i 1).val = t.val / 10 * 2048 + (y 1).val) :
    acc (F := Ideal) V c t.val y
      = ∑ k : Fin 6400, acts V c (ix2 (i 0) k) * weights V c (ix2 k (i 1)) := by
  have hN : t.val < 20 := lt_of_lt_of_eq t.isLt N_1
  rw [acc_at, ht, Finset.sum_range, Fin.sum_univ_tiles 10 640 rfl]
  refine Finset.sum_congr rfl fun j _ => Finset.sum_congr rfl fun k _ => ?_
  have hp : (pt (t.val / 10 * 10 + j.val)).val = t.val / 10 * 10 + j.val := Nat.mod_eq_of_lt (lt_of_lt_of_eq (show _ < 20 by omega) N_1.symm)
  have hm : (pt (t.val / 10 * 10 + j.val)).val % 10 = j.val := by rw [hp]; omega
  have hx : actsAt V c (t.val / 10 * 10 + j.val) (ix2 (y 0) k) = acts V c (ix2 (i 0) ⟨j.val * 640 + k.val, by omega⟩) :=
    (block0_at V c _ y k).trans (congrArg (acts V c) (by blk_ext [hm]))
  have hw : weightsAt V c (t.val / 10 * 10 + j.val) (ix2 k (y 1)) = weights V c (ix2 ⟨j.val * 640 + k.val, by omega⟩ (i 1)) :=
    (block1_at V c _ y k i (by rw [hp, h1]; omega)).trans (congrArg (weights V c) (by blk_ext [hm]))
  rw [hx, hw]

/-- The hidden layer's blocks are written back after their last step. -/
theorem last_of_flush (t : Fin cfg1.N) (h : (cfg1.win 3).flush t = true) : t.val % 10 = 9 := (flush1_3 t).mp h

/-- Where an entry of the block of point `t` sits in the hidden layer. -/
theorem place (t : Fin cfg1.N) (y : S1024x2048.Idx) :
    ((((cfg1.win 3).blk t).view.emb y : S1024x4096.Idx) 0).val = (y 0).val
      ∧ ((((cfg1.win 3).blk t).view.emb y : S1024x4096.Idx) 1).val = t.val / 10 * 2048 + (y 1).val := by
  constructor
  · blk_simp [idx t]
  · blk_simp [idx t]

/-- Together those blocks are the whole hidden layer. -/
theorem covers : (cfg1.win 3).Covers := by decide +kernel

/-- The hidden layer after the run. -/
theorem final (c : Dev nD) : (dat (F := Ideal) V c).arrAt 3 cfg1.N = layer (acts V c) (weights V c) (bias V c) := by
  refine (dat V c).arrAt_eq_of_covers 3 _ covers fun t hf y => ?_
  have ht := last_of_flush t hf
  rw [after_3]
  obtain ⟨h0, h1⟩ := place t y
  refine Eq.trans ?_ (congrArg₂ (fun a b : Ideal .f32 => (max (a + b) 0 : Ideal .f32)) (acc_last V c t ht y _ h0 h1) (block2_at V c t y _ h1))
  blk_simp
  exact pay3_at _ _ y

end Cert.KernelIdeal.Own.Mm1

end
-- ==== Proof.KernelIdeal.Layer2.lean ====
/-
  The second matmul of `KernelIdeal` over the extended reals: what its pipeline leaves in the result, as one
  product over all 4096 columns of the hidden layer, and a bias.
-/
module

public import proofs.«01_k».proof.Proof.KernelIdeal.Mm2
public import Idealize.ShloMosaic.Lib.Pipeline.ValueKit

@[expose] public section

set_option maxRecDepth 16384

noncomputable section

namespace Cert.KernelIdeal.Own.Mm2

open Cert.KernelIdeal Cert.KernelIdeal.Gen

open Idealize.ShloMosaic
open Idealize.ShloMosaic.TcCoe
open Idealize.SL.Sem
open Idealize.ShloMosaic.Pipeline (Dat)

variable (V : (c : Dev nD) → (b : Ref sig .tc) → Buf (Elt Ideal) ((c : Thread nD τ).loc b))

/-- The windows' blocks: point `t` is column block `t / 4`, step `t % 4`. -/
theorem idx : ∀ t : Fin cfg2.N, win2_0.index t = ![0, t.val % 4] ∧ win2_1.index t = ![t.val % 4, t.val / 4]
    ∧ win2_2.index t = ![0, t.val / 4] ∧ win2_3.index t = ![0, t.val / 4] :=
  (by decide +kernel : ∀ t : Fin grid2.N, _)

/-- One step at an entry: the partial product added to what the scratch holds. -/
theorem pay2_at (s : FVec Ideal S1024x2048 .f32) (x : FVec Ideal S1024x1024 .bf16) (w : FVec Ideal S1024x2048 .f32) (y : S1024x2048.Idx) :
    k2_pay2 s x w y = s y + ∑ k : Fin 1024, x (ix2 (y 0) k) * w (ix2 k (y 1)) := by
  pointwise [k2_pay2]

/-- The scratch is cleared to zero. -/
theorem pay1_at (y : S1024x2048.Idx) : (k2_pay1 : FVec Ideal S1024x2048 .f32) y = 0 := by
  pointwise [k2_pay1]

/-- The result from the hidden layer, the weights and the bias. -/
def layer (X : FVec Ideal S1024x4096 .bf16) (Wt : FVec Ideal S4096x4096 .f32) (B : FVec Ideal S1x4096 .f32) : FVec Ideal S1024x4096 .f32 :=
  fun i => (∑ k : Fin 4096, X (ix2 (i 0) k) * Wt (ix2 k (i 1))) + B (ix2 0 (i 1))

/-- The last step's block at an entry: the bias added. -/
theorem pay3_at (s : FVec Ideal S1024x2048 .f32) (b : FVec Ideal S1x2048 .f32) (y : S1024x2048.Idx) :
    k2_pay3 s b y = s y + b (ix2 0 (y 1)) := by
  pointwise [k2_pay3]

/-- The hidden layer's block at point `t`. -/
theorem block0_at (c : Dev nD) (t : Fin cfg2.N) (y : S1024x2048.Idx) (k : Fin 1024) :
    blockAt V c 0 t (ix2 (y 0) k) = V c main_v4 (ix2 (y 0) ⟨(t.val % 4) * 1024 + k, by omega⟩) := by
  blk_ext [blockAt, idx t]

/-- The weights' block at point `t`. -/
theorem block1_at (c : Dev nD) (t : Fin cfg2.N) (y : S1024x2048.Idx) (k : Fin 1024) (i : S1024x4096.Idx)
    (hi : (i 1).val = t.val / 4 * 2048 + (y 1).val) :
    blockAt V c 1 t (ix2 k (y 1)) = V c main_arg4 (ix2 ⟨(t.val % 4) * 1024 + k, by omega⟩ (i 1)) := by
  blk_ext [blockAt, idx t]

/-- The bias's block at point `t`. -/
theorem block2_at (c : Dev nD) (t : Fin cfg2.N) (y : S1024x2048.Idx) (i : S1024x4096.Idx)
    (hi : (i 1).val = t.val / 4 * 2048 + (y 1).val) :
    blockAt V c 2 t (ix2 0 (y 1)) = V c main_v5 (ix2 0 (i 1)) := by
  blk_ext [blockAt, idx t]

/-- The hidden layer, the weights and the bias, as the pipeline finds them. -/
abbrev acts (c : Dev nD) : FVec Ideal S1024x4096 .bf16 := V c main_v4
abbrev weights (c : Dev nD) : FVec Ideal S4096x4096 .f32 := V c main_arg4
abbrev bias (c : Dev nD) : FVec Ideal S1x4096 .f32 := V c main_v5
/-- The first two's blocks at point `n`. -/
abbrev actsAt (c : Dev nD) (n : ℕ) : FVec Ideal S1024x1024 .bf16 := blockAt V c 0 (pt n)
abbrev weightsAt (c : Dev nD) (n : ℕ) : FVec Ideal S1024x2048 .f32 := blockAt V c 1 (pt n)

/-- What point `n` adds to the scratch at an entry. -/
def term (c : Dev nD) (y : S1024x2048.Idx) (n : ℕ) : Ideal .f32 :=
  ∑ k : Fin 1024, actsAt V c n (ix2 (y 0) k) * weightsAt V c n (ix2 k (y 1))

/-- The scratch after point `n`: the terms of its column block so far. -/
theorem acc_at (c : Dev nD) (y : S1024x2048.Idx) (n : ℕ) :
    acc (F := Ideal) V c n y = ∑ j ∈ Finset.range (n % 4 + 1), term V c y (n / 4 * 4 + j) := by
  induction n with
  | zero =>
    show k2_pay2 k2_pay1 (blockAt V c 0 (pt 0)) (blockAt V c 1 (pt 0)) y = _
    rw [pay2_at, pay1_at, zero_add, Finset.sum_range_one]
    rfl
  | succ n ih =>
    show k2_pay2 (if (n + 1) % 4 = 0 then k2_pay1 else acc V c n) (blockAt V c 0 (pt (n + 1))) (blockAt V c 1 (pt (n + 1))) y = _
    rw [pay2_at]
    by_cases h : (n + 1) % 4 = 0
    · rw [if_pos h, pay1_at, zero_add, h, Finset.sum_range_one, show (n + 1) / 4 * 4 + 0 = n + 1 by omega]
      rfl
    · rw [if_neg h, ih, show (n + 1) % 4 = n % 4 + 1 by omega, show (n + 1) / 4 = n / 4 by omega, Finset.sum_range_succ _ (n % 4 + 1),
        show n / 4 * 4 + (n % 4 + 1) = n + 1 by omega]
      rfl

/-- After a column block's last point the scratch holds the whole product. -/
theorem acc_last (c : Dev nD) (t : Fin cfg2.N) (ht : t.val % 4 = 3) (y : S1024x2048.Idx) (i : S1024x4096.Idx)
    (h0 : (i 0).val = (y 0).val) (h1 : (i 1).val = t.val / 4 * 2048 + (y 1).val) :
    acc (F := Ideal) V c t.val y
      = ∑ k : Fin 4096, acts V c (ix2 (i 0) k) * weights V c (ix2 k (i 1)) := by
  have hN : t.val < 8 := lt_of_lt_of_eq t.isLt N_2
  rw [acc_at, ht, Finset.sum_range, Fin.sum_univ_tiles 4 1024 rfl]
  refine Finset.sum_congr rfl fun j _ => Finset.sum_congr rfl fun k _ => ?_
  have hp : (pt (t.val / 4 * 4 + j.val)).val = t.val / 4 * 4 + j.val := Nat.mod_eq_of_lt (lt_of_lt_of_eq (show _ < 8 by omega) N_2.symm)
  have hm : (pt (t.val / 4 * 4 + j.val)).val % 4 = j.val := by rw [hp]; omega
  have hx : actsAt V c (t.val / 4 * 4 + j.val) (ix2 (y 0) k) = acts V c (ix2 (i 0) ⟨j.val * 1024 + k.val, by omega⟩) :=
    (block0_at V c _ y k).trans (congrArg (acts V c) (by blk_ext [hm]))
  have hw : weightsAt V c (t.val / 4 * 4 + j.val) (ix2 k (y 1)) = weights V c (ix2 ⟨j.val * 1024 + k.val, by omega⟩ (i 1)) :=
    (block1_at V c _ y k i (by rw [hp, h1]; omega)).trans (congrArg (weights V c) (by blk_ext [hm]))
  rw [hx, hw]

/-- The result's blocks are written back after their last step. -/
theorem last_of_flush (t : Fin cfg2.N) (h : (cfg2.win 3).flush t = true) : t.val % 4 = 3 := (flush2_3 t).mp h

/-- Where an entry of the block of point `t` sits in the result. -/
theorem place (t : Fin cfg2.N) (y : S1024x2048.Idx) :
    ((((cfg2.win 3).blk t).view.emb y : S1024x4096.Idx) 0).val = (y 0).val
      ∧ ((((cfg2.win 3).blk t).view.emb y : S1024x4096.Idx) 1).val = t.val / 4 * 2048 + (y 1).val := by
  constructor
  · blk_simp [idx t]
  · blk_simp [idx t]

/-- Together those blocks are the whole result. -/
theorem covers : (cfg2.win 3).Covers := by decide +kernel

/-- The result after the run. -/
theorem final (c : Dev nD) : (dat (F := Ideal) V c).arrAt 3 cfg2.N = layer (acts V c) (weights V c) (bias V c) := by
  refine (dat V c).arrAt_eq_of_covers 3 _ covers fun t hf y => ?_
  have ht := last_of_flush t hf
  rw [after_3]
  obtain ⟨h0, h1⟩ := place t y
  refine Eq.trans ?_ (congrArg₂ (fun a b : Ideal .f32 => a + b) (acc_last V c t ht y _ h0 h1) (block2_at V c t y _ h1))
  blk_simp
  exact pay3_at _ _ y

end Cert.KernelIdeal.Own.Mm2

end
-- ==== Proof.ReferenceIdeal.Value.lean ====
/-
  What the reference computes over the extended reals, entry by entry: the rows it takes from the table, and its two
  layers as sums of products, a bias, and between them a maximum with zero.
-/
module

public import proofs.«01_k».proof.Proof.Gen.ReferenceIdeal
public import proofs.«01_k».proof.Proof.Gen.ReferenceIdeal.Run
public import Idealize.ShloMosaic.Lib.Pipeline.ValueKit
public import Idealize.ShloMosaic.Lib.ReduceAll

@[expose] public section

set_option maxRecDepth 16384

noncomputable section

namespace Cert.ReferenceIdeal.Own

open Cert.ReferenceIdeal Cert.ReferenceIdeal.Gen

open Idealize.ShloMosaic
open Idealize.ShloMosaic.TcCoe
open Idealize.SL.Sem

/-- The row numbers as the reference reads them: a negative word counts from the table's end. -/
def wrapped (x : IVec S1024x50 32) : IVec S1024x50x1 32 :=
  broadcastInDim S1024x50x1 ![0, 1] bcast_S1024x50_S1024x50x1_0_1
    (select (cmpi .slt x (broadcastInDim S1024x50 ![] bcast_S_S1024x50 (constantI S_ 32 0#32)))
      (addi x (broadcastInDim S1024x50 ![] bcast_S_S1024x50 (constantI S_ 32 100000#32))) x)

/-- Which row numbers the reference takes to be in the table. -/
def inTable (x : IVec S1024x50 32) : IVec S1024x50 1 :=
  Host.reduce IntOp.andi
    (andi (cmpi .sge (wrapped x) (broadcastInDim S1024x50x1 ![] bcast_S_S1024x50x1 (constantI S_ 32 0#32)))
      (cmpi .sle (wrapped x) (broadcastInDim S1024x50x1 ![0, 1, 2] bcast_S1x1x1_S1024x50x1_0_1_2
        (broadcastInDim S1x1x1 ![2] bcast_S1_S1x1x1_2 (constantI S1 32 99999#32)))))
    (constantI S_ 1 1#1) reducesTo_S1024x50x1_S1024x50_d2 h_S_

/-- The rows the reference takes, one per word. -/
def rows (x : IVec S1024x50 32) (tb : FVec Ideal S100000x128 .f32) : FVec Ideal S1024x50x128 .f32 :=
  select (broadcastInDim S1024x50x128 ![0, 1] bcast_S1024x50_S1024x50x128_0_1 (inTable x))
    (Host.gather gather_S100000x128_S1024x50x1_S1024x50x128_2_0_n_n_0_2_1128 tb (wrapped x))
    (broadcastInDim S1024x50x128 ![] bcast_S_S1024x50x128 (constant S_ .f32 0x7FC00000#32))

/-- A word below 100000 is not negative. -/
theorem not_neg (v : BitVec 32) (h : v.toNat < 100000) : IntOp.cmpi .slt v 0#32 = 0#1 := by
  have e : BitVec.slt v 0#32 = false := by
    rw [BitVec.slt_eq_decide, BitVec.toInt_eq_toNat_of_lt (by omega)]
    simp
  simp [IntOp.cmpi, e]

/-- A word below 100000 is the same number read signed. -/
theorem signed (v : BitVec 32) (h : v.toNat < 100000) : v.toInt.toNat = v.toNat := by
  rw [BitVec.toInt_eq_toNat_of_lt (by omega)]
  rfl

/-- A word below 100000 is at least zero. -/
theorem ge_zero (v : BitVec 32) (h : v.toNat < 100000) : IntOp.cmpi .sge v 0#32 = 1#1 := by
  have e : BitVec.sle 0#32 v = true := by
    rw [BitVec.sle_eq_decide, BitVec.toInt_eq_toNat_of_lt (x := v) (by omega)]
    simp
  simp [IntOp.cmpi, e]

/-- A word below 100000 is at most 99999. -/
theorem le_last (v : BitVec 32) (h : v.toNat < 100000) : IntOp.cmpi .sle v 99999#32 = 1#1 := by
  have e : BitVec.sle v 99999#32 = true := by
    rw [BitVec.sle_eq_decide, BitVec.toInt_eq_toNat_of_lt (x := v) (by omega)]
    simp
    omega
  simp [IntOp.cmpi, e]

/-- The row number read for a word in the table is the word. -/
theorem wrapped_at (x : IVec S1024x50 32) (h : ∀ j, (x j).toNat < 100000) (y : S1024x50x1.Idx) :
    wrapped x y = x (ix2 (y 0) (y 1)) := by
  have e : wrapped x y = Scalar.select (IntOp.cmpi .slt (x (ix2 (y 0) (y 1))) 0#32)
      (IntOp.addi (x (ix2 (y 0) (y 1))) 100000#32) (x (ix2 (y 0) (y 1))) := by
    pointwise [wrapped]
  rw [e, not_neg _ (h _)]
  rfl

/-- Every word in the table is found in it. -/
theorem inTable_at (x : IVec S1024x50 32) (h : ∀ j, (x j).toNat < 100000) (j : S1024x50.Idx) : inTable x j = 1#1 := by
  refine Host.reduce_andi_one _ _ _ _ _ rfl fun i => ?_
  show IntOp.andi (IntOp.cmpi .sge (wrapped x i) 0#32) (IntOp.cmpi .sle (wrapped x i) 99999#32) = 1#1
  rw [wrapped_at x h, ge_zero _ (h _), le_last _ (h _)]
  rfl

/-- One entry of the rows picked out of the table, where the row number is in range. -/
theorem gather_at (tb : FVec Ideal S100000x128 .f32) (ix : IVec S1024x50x1 32) (y : S1024x50x128.Idx)
    (h : (ix (ix3 (y 0) (y 1) 0)).toNat < 100000) :
    Host.gather gather_S100000x128_S1024x50x1_S1024x50x128_2_0_n_n_0_2_1128 tb ix y
      = tb (ix2 ⟨(ix (ix3 (y 0) (y 1) 0)).toNat, h⟩ (y 2)) := by
  refine congrArg tb (funext fun a => Fin.ext ?_)
  show GatherDims.start _ y ix a + GatherDims.batchCoord _ y a + GatherDims.offCoord _ y a = _
  rw [GatherDims.batchCoord_eq_zero _ _ _ List.not_mem_nil]
  have ha : a = 0 ∨ a = 1 := by
    match a with
    | ⟨0, _⟩ => exact Or.inl rfl
    | ⟨1, _⟩ => exact Or.inr rfl
  rcases ha with rfl | rfl
  · rw [GatherDims.offCoord_eq_zero _ _ _ (fun hk => ((GatherDims.mem_sKept _ _).mp hk).1 (List.mem_singleton.mpr rfl))]
    unfold GatherDims.start
    rw [dif_pos (show (0 : Fin 2) ∈ gather_S100000x128_S1024x50x1_S1024x50x128_2_0_n_n_0_2_1128.startIndexMap from List.mem_singleton.mpr rfl)]
    have hs (k) : GatherDims.siIdx gather_S100000x128_S1024x50x1_S1024x50x128_2_0_n_n_0_2_1128 y k = ix3 (y 0) (y 1) 0 := by
      funext b
      match b with
      | ⟨0, _⟩ => rfl
      | ⟨1, _⟩ => rfl
      | ⟨2, _⟩ => exact Fin.ext (by have := k.isLt; simpa using this)
    rw [hs]
    exact (congrArg (fun n => min n (100000 - 1)) (signed _ h)).trans (Nat.min_eq_left (Nat.le_of_lt_succ h))
  · unfold GatherDims.start GatherDims.offCoord
    rw [dif_neg (show (1 : Fin 2) ∉ gather_S100000x128_S1024x50x1_S1024x50x128_2_0_n_n_0_2_1128.startIndexMap by decide),
      dif_pos (show (1 : Fin 2) ∈ gather_S100000x128_S1024x50x1_S1024x50x128_2_0_n_n_0_2_1128.sKept by decide)]
    show 0 + 0 + (y 2).val = (y 2).val
    omega

/-- A mark per word, spread over the word's row. -/
theorem spread_at (p : IVec S1024x50 1) (y : S1024x50x128.Idx) :
    broadcastInDim S1024x50x128 ![0, 1] bcast_S1024x50_S1024x50x128_0_1 p y = p (ix2 (y 0) (y 1)) := by
  pointwise []

/-- Where every mark is one, the first of two arrays is picked. -/
theorem pick_first (p : IVec S1024x50x128 1) (a b : FVec Ideal S1024x50x128 .f32) (y : S1024x50x128.Idx) (h : p y = 1#1) :
    select p a b y = a y := by
  show Scalar.select (p y) (a y) (b y) = a y
  rw [h]
  rfl

/-- One entry of the rows taken: the word's row of the table. -/
theorem rows_at (x : IVec S1024x50 32) (tb : FVec Ideal S100000x128 .f32) (h : ∀ j, (x j).toNat < 100000) (y : S1024x50x128.Idx) :
    rows x tb y = tb (ix2 ⟨(x (ix2 (y 0) (y 1))).toNat, h _⟩ (y 2)) := by
  have w : wrapped x (ix3 (y 0) (y 1) 0) = x (ix2 (y 0) (y 1)) := wrapped_at x h _
  unfold rows
  rw [pick_first _ _ _ y ((spread_at _ y).trans (inTable_at x h _)), gather_at tb _ y (by rw [w]; exact h _)]
  refine congrArg (fun r : Fin 100000 => tb (ix2 r (y 2))) (Fin.ext ?_)
  show (wrapped x (ix3 (y 0) (y 1) 0)).toNat = (x (ix2 (y 0) (y 1))).toNat
  rw [w]

/-- The rows laid side by side, fifty to a line. -/
def lines (x : IVec S1024x50 32) (tb : FVec Ideal S100000x128 .f32) : FVec Ideal S1024x6400 .f32 :=
  shapeCast _ (rows x tb) shapeCasts_S1024x50x128_S1024x6400

/-- One entry of the lines. -/
theorem lines_at (x : IVec S1024x50 32) (tb : FVec Ideal S100000x128 .f32) (h : ∀ j, (x j).toNat < 100000) (i : Fin 1024) (k : Fin 6400) :
    lines x tb (ix2 i k) = tb (ix2 ⟨(x (ix2 i ⟨k.val / 128, by omega⟩)).toNat, h _⟩ ⟨k.val % 128, by omega⟩) := by
  have e : lines x tb (ix2 i k) = rows x tb (ix3 i ⟨k.val / 128, by omega⟩ ⟨k.val % 128, by omega⟩) := by
    refine shapeCast_apply _ _ _ _ ?_
    rw [rowMajor_val3 _ 6400 128 rfl rfl, rowMajor_val2 _ 6400 rfl]
    show i.val * 6400 + k.val / 128 * 128 + k.val % 128 = i.val * 6400 + k.val
    omega
  rw [e, rows_at x tb h]
  rfl

/-- The hidden layer the reference computes. -/
def hidden (X : FVec Ideal S1024x6400 .f32) (Wt : FVec Ideal S6400x4096 .f32) (b : FVec Ideal S4096 .f32) : FVec Ideal S1024x4096 .f32 :=
  maximumf (addf (Host.dotGeneral dot_S1024x6400_S6400x4096_S1024x4096_1_0_0_1_n_n none X Wt)
    (broadcastInDim S1024x4096 ![0, 1] bcast_S1x4096_S1024x4096_0_1 (broadcastInDim S1x4096 ![1] bcast_S4096_S1x4096_1 b)))
    (broadcastInDim S1024x4096 ![] bcast_S_S1024x4096 (constant S_ .f32 0x00000000#32))

/-- One entry of the hidden layer. -/
theorem hidden_at (X : FVec Ideal S1024x6400 .f32) (Wt : FVec Ideal S6400x4096 .f32) (b : FVec Ideal S4096 .f32) (i : S1024x4096.Idx) :
    hidden X Wt b i = max ((∑ k : Fin 6400, X (ix2 (i 0) k) * Wt (ix2 k (i 1))) + b (ix1 (i 1))) 0 := by
  pointwise [hidden]

/-- The output layer the reference computes. -/
def out (X : FVec Ideal S1024x4096 .f32) (Wt : FVec Ideal S4096x4096 .f32) (b : FVec Ideal S4096 .f32) : FVec Ideal S1024x4096 .f32 :=
  addf (Host.dotGeneral dot_S1024x4096_S4096x4096_S1024x4096_1_0_0_1_n_n none X Wt)
    (broadcastInDim S1024x4096 ![0, 1] bcast_S1x4096_S1024x4096_0_1 (broadcastInDim S1x4096 ![1] bcast_S4096_S1x4096_1 b))

/-- One entry of the output layer. -/
theorem out_at (X : FVec Ideal S1024x4096 .f32) (Wt : FVec Ideal S4096x4096 .f32) (b : FVec Ideal S4096 .f32) (i : S1024x4096.Idx) :
    out X Wt b i = (∑ k : Fin 4096, X (ix2 (i 0) k) * Wt (ix2 k (i 1))) + b (ix1 (i 1)) := by
  pointwise [out]

end Cert.ReferenceIdeal.Own

end
-- ==== Proof.KernelIdeal.Value.lean ====
/-
  The result of `KernelIdeal` over the extended reals is the reference's: what each step of @main finds in the buffers
  it reads, entry by entry, down to the launch memory.
-/
module

public import proofs.«01_k».proof.Proof.KernelIdeal.Run
public import proofs.«01_k».proof.Proof.KernelIdeal.Layer1
public import proofs.«01_k».proof.Proof.KernelIdeal.Layer2
public import proofs.«01_k».proof.Proof.ReferenceIdeal.Value

@[expose] public section

set_option maxRecDepth 16384

noncomputable section

namespace Cert.KernelIdeal.Own

open Cert.KernelIdeal Cert.KernelIdeal.Gen

open Idealize.ShloMosaic
open Idealize.ShloMosaic.TcCoe
open Idealize.SL.Sem
open Idealize.ShloMosaic.StableHlo (launchContents)

variable (m : (ℓ : Loc nD τ sig) → Buf (Elt Ideal) ℓ)

/-! ## The arguments at launch -/

abbrev words (d : Dev nD) : IVec S1024x50 32 := m ((d.tc : Thread nD τ).loc main_arg0)
abbrev tbl (d : Dev nD) : FVec Ideal S100000x128 .f32 := m ((d.tc : Thread nD τ).loc main_arg1)
abbrev w1 (d : Dev nD) : FVec Ideal S6400x4096 .f32 := m ((d.tc : Thread nD τ).loc main_arg2)
abbrev b1 (d : Dev nD) : FVec Ideal S4096 .f32 := m ((d.tc : Thread nD τ).loc main_arg3)
abbrev w2 (d : Dev nD) : FVec Ideal S4096x4096 .f32 := m ((d.tc : Thread nD τ).loc main_arg4)
abbrev b2 (d : Dev nD) : FVec Ideal S4096 .f32 := m ((d.tc : Thread nD τ).loc main_arg5)

/-! ## What the SparseCore call reads -/

/-- The row numbers in one line are the words, fifty to a line of theirs. -/
theorem nums_at (d : Dev nD) (i : Fin 1024) (j : Fin 50) (n : Fin 51200) (hn : n.val = i.val * 50 + j.val) :
    nums m d (ixNum n) = words m d (ix2 i j) := by
  unfold nums W1
  rw [StableHlo.reshape_result]
  refine shapeCast_apply (words m d) shapeCasts_S1024x50_S51200 (ixNum n) (ix2 i j) ?_
  rw [rowMajor_val2 _ 50 rfl, rowMajor_val1]
  exact hn.symm

/-- The table is the launch's. -/
theorem table_eq (d : Dev nD) : table m d = tbl m d := by
  unfold table W1
  rw [StableHlo.reshape_result_ne (h := by decide)]

variable (hib : ∀ d j, (nums m d j).toNat < 100000)

/-! ## What the first matmul reads -/

/-- The gathered rows as the first matmul reads them. -/
abbrev laid (d : Dev nD) : FVec Ideal S1024x6400 .f32 :=
  shapeCast S1024x6400 (gathered (F := Ideal) (table m d) (nums m d) (hib d) : FVec Ideal S51200x128 .f32) shapeCasts_S51200x128_S1024x6400
/-- A bias made a row. -/
abbrev asRow (b : FVec Ideal S4096 .f32) : FVec Ideal S1x4096 .f32 := shapeCast S1x4096 b shapeCasts_S4096_S1x4096

/-- Different references name different buffers. -/
theorem ne_ref {x y : Ref sig .tc} (h : x ≠ y) : (x : DevRef τ sig) ≠ (y : DevRef τ sig) := StableHlo.devRef_ne_of_ne h

/-- A buffer that no step before the first matmul writes is the launch's when that matmul begins. -/
theorem W4_arg (d : Dev nD) (b : Ref sig .tc) (h : b ≠ main_v0 ∧ b ≠ main_v1 ∧ b ≠ main_v2 ∧ b ≠ main_v3) :
    W4 m hib d b = m ((d.tc : Thread nD τ).loc b) := by
  obtain ⟨h0, h1, h2, h3⟩ := h
  unfold W4
  rw [StableHlo.reshape_result_ne (h := h3)]
  unfold W3
  rw [StableHlo.reshape_result_ne (h := h2)]
  unfold W2
  rw [Function.update_of_ne (ne_ref h1)]
  unfold W1
  rw [StableHlo.reshape_result_ne (h := h0)]

/-- The first matmul's activations are the gathered rows, fifty to a line. -/
theorem acts1 (d : Dev nD) : Mm1.acts (V1 m hib) d = laid m hib d := by
  show W4 m hib d main_v2 = _
  unfold W4
  rw [StableHlo.reshape_result_ne (h := by decide)]
  unfold W3
  rw [StableHlo.reshape_result]
  unfold W2
  rw [Function.update_self]
  rfl

/-- Its weights are the launch's. -/
theorem weights1 (d : Dev nD) : Mm1.weights (V1 m hib) d = w1 m d := W4_arg m hib d main_arg2 (by decide)

/-- Its bias is the launch's, as a row. -/
theorem bias1 (d : Dev nD) : Mm1.bias (V1 m hib) d = asRow (b1 m d) := by
  show W4 m hib d main_v3 = _
  unfold W4
  rw [StableHlo.reshape_result]
  unfold W3
  rw [StableHlo.reshape_result_ne (h := by decide)]
  unfold W2
  rw [Function.update_of_ne (ne_ref (by decide))]
  unfold W1
  rw [StableHlo.reshape_result_ne (h := by decide)]
  rfl

/-! ## What the second matmul reads -/

/-- Its activations are the hidden layer. -/
theorem acts2 (d : Dev nD) : Mm2.acts (V2 m hib) d = Mm1.layer (laid m hib d) (w1 m d) (asRow (b1 m d)) := by
  rw [← acts1, ← weights1 m hib, ← bias1 m hib, ← Mm1.final]
  show W6 m hib d main_v4 = _
  unfold W6
  rw [StableHlo.reshape_result_ne (h := by decide)]
  unfold W5
  rw [Function.update_self]

/-- Its weights are the launch's. -/
theorem weights2 (d : Dev nD) : Mm2.weights (V2 m hib) d = w2 m d := by
  show W6 m hib d main_arg4 = _
  unfold W6
  rw [StableHlo.reshape_result_ne (h := by decide)]
  unfold W5
  rw [Function.update_of_ne (ne_ref (by decide))]
  exact W4_arg m hib d main_arg4 (by decide)

/-- Its bias is the launch's, as a row. -/
theorem bias2 (d : Dev nD) : Mm2.bias (V2 m hib) d = asRow (b2 m d) := by
  show W6 m hib d main_v5 = _
  unfold W6
  rw [StableHlo.reshape_result]
  unfold W5
  rw [Function.update_of_ne (ne_ref (by decide)), W4_arg m hib d main_arg5 (by decide)]
  rfl

/-- The result from the gathered rows and the launch's weights and biases. -/
theorem result_eq (d : Dev nD) :
    result m hib d = Mm2.layer (Mm1.layer (laid m hib d) (w1 m d) (asRow (b1 m d))) (w2 m d) (asRow (b2 m d)) := by
  unfold result
  rw [Mm2.final, acts2, weights2, bias2]

/-! ## The reference's value -/

/-- One entry of a bias made a row. -/
theorem asRow_at (b : FVec Ideal S4096 .f32) (k : Fin 4096) : asRow b (ix2 0 k) = b (ix1 k) := by
  refine shapeCast_apply _ _ _ _ ?_
  rw [rowMajor_val2 _ 4096 rfl, rowMajor_val1]
  show k.val = 0 * 4096 + k.val
  omega

/-- The reference's result from the launch memory. -/
abbrev refValue (d : Dev nD) : FVec Ideal S1024x4096 .f32 :=
  Cert.ReferenceIdeal.Own.out (Cert.ReferenceIdeal.Own.hidden (Cert.ReferenceIdeal.Own.lines (words m d) (tbl m d)) (w1 m d) (b1 m d)) (w2 m d) (b2 m d)

/-- One entry of the gathered rows: the table's at the word's row. -/
theorem laid_at (hw : ∀ d j, (words m d j).toNat < 100000) (d : Dev nD) (i : Fin 1024) (k : Fin 6400) :
    laid m hib d (ix2 i k) = Cert.ReferenceIdeal.Own.lines (words m d) (tbl m d) (ix2 i k) := by
  have e : laid m hib d (ix2 i k) = gathered (F := Ideal) (table m d) (nums m d) (hib d) (ix2 ⟨i.val * 50 + k.val / 128, by omega⟩ ⟨k.val % 128, by omega⟩) := by
    refine shapeCast_apply _ _ _ _ ?_
    rw [rowMajor_val2 _ 128 rfl, rowMajor_val2 _ 6400 rfl]
    show (i.val * 50 + k.val / 128) * 128 + k.val % 128 = i.val * 6400 + k.val
    omega
  have hn := nums_at m d i ⟨k.val / 128, by omega⟩ ⟨i.val * 50 + k.val / 128, by omega⟩ rfl
  rw [e, Cert.ReferenceIdeal.Own.lines_at _ _ (hw d)]
  show table m d (ixTab ⟨(nums m d (ixNum ⟨i.val * 50 + k.val / 128, by omega⟩)).toNat, hib d _⟩ ⟨k.val % 128, by omega⟩) = _
  rw [table_eq]
  have hr : (⟨(nums m d (ixNum ⟨i.val * 50 + k.val / 128, by omega⟩)).toNat, hib d _⟩ : Fin 100000)
      = ⟨(words m d (ix2 i ⟨k.val / 128, by omega⟩)).toNat, hw d _⟩ := by
    refine Fin.ext ?_
    show BitVec.toNat (nums m d (ixNum ⟨i.val * 50 + k.val / 128, by omega⟩)) = _
    rw [hn]
  rw [hr]
  congr 1
  funext a
  match a with
  | ⟨0, _⟩ => rfl
  | ⟨1, _⟩ => rfl

/-- The result is the reference's. -/
theorem result_eq_ref (hw : ∀ d j, (words m d j).toNat < 100000) (d : Dev nD) : result m hib d = refValue m d := by
  rw [result_eq]
  funext i
  show (∑ k : Fin 4096, Mm1.layer (laid m hib d) (w1 m d) (asRow (b1 m d)) (ix2 (i 0) k) * w2 m d (ix2 k (i 1))) + asRow (b2 m d) (ix2 0 (i 1)) = _
  refine .trans ?_ (Cert.ReferenceIdeal.Own.out_at _ _ _ i).symm
  refine congrArg₂ (· + ·) ?_ (asRow_at _ (i 1))
  refine Finset.sum_congr rfl fun k _ => ?_
  refine congrArg (· * w2 m d (ix2 k (i 1))) ?_
  refine .trans ?_ (Cert.ReferenceIdeal.Own.hidden_at _ _ _ (ix2 (i 0) k)).symm
  show max ((∑ l : Fin 6400, laid m hib d (ix2 (i 0) l) * w1 m d (ix2 l k)) + asRow (b1 m d) (ix2 0 k)) 0 = _
  rw [asRow_at]
  refine congrArg (fun z => max (z + b1 m d (ix1 k)) 0) ?_
  exact Finset.sum_congr rfl fun l _ => congrArg (· * w1 m d (ix2 l k)) (laid_at m hib hw d (i 0) l)

end Cert.KernelIdeal.Own

end
-- ==== Proof.lean ====
/-
  The claims, assembled: each program's run under the precondition on the words, and over the extended reals the
  equality of the two results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_words_in_table
public import proofs.«01_k».proof.Proof.Kernel.Run
public import proofs.«01_k».proof.Proof.KernelIdeal.Value
public import Idealize.ShloMosaic.Adequacy
public import Idealize.ShloMosaic.Init

@[expose] public section

noncomputable section

namespace Cert.Proof

open Idealize.ShloMosaic Idealize.ShloMosaic.TcCoe Idealize.SL.Sem

/-- Where the precondition holds, each word is at least zero and below 100000 as the predicate compares them. -/
theorem compared {F : FTy → Type} [FloatOps F] (x : IVec Cert.Pre_words_in_table.S1024x50 32)
    (tb : FVec F Cert.Pre_words_in_table.S100000x128 .f32) (w1 : FVec F Cert.Pre_words_in_table.S6400x4096 .f32)
    (b1 : FVec F Cert.Pre_words_in_table.S4096 .f32) (w2 : FVec F Cert.Pre_words_in_table.S4096x4096 .f32)
    (b2 : FVec F Cert.Pre_words_in_table.S4096 .f32)
    (h : Cert.Pre_words_in_table.fn (F := F) x tb w1 b1 w2 b2 = fun _ => 1#1) (j : Cert.Pre_words_in_table.S1024x50.Idx) :
    IntOp.andi (IntOp.cmpi .sge (x j) 0#32) (IntOp.cmpi .slt (x j) 100000#32) = 1#1 := by
  haveI : Subsingleton Cert.Pre_words_in_table.S_.Idx := ⟨fun a b => funext fun k => k.elim0⟩
  exact Host.reduce_andi_all _ _ _ _ _ (congrFun h fun k => k.elim0) j

/-- The row numbers the program finds are rows of the table, at the bit-exact instance. -/
theorem rows_p (m : (ℓ : Loc Cert.Kernel.nD Cert.Kernel.τ Cert.Kernel.sig) → Buf (Elt Bits) ℓ) (h : Cert.Pre_Kernel m)
    (d : Dev Cert.Kernel.nD) (j : Cert.Kernel.S51200.Idx) : (Cert.Kernel.Own.nums m d j).toNat < 100000 :=
  Cert.Kernel.Own.nums_in_table m (fun d j => Cert.Kernel.Own.word_in_table _ (compared _ _ _ _ _ _ (h d) j)) d j

/-- At the ideal instance every word names a row of the table. -/
theorem words_i (m : (ℓ : Loc Cert.KernelIdeal.nD Cert.KernelIdeal.τ Cert.KernelIdeal.sig) → Buf (Elt Ideal) ℓ)
    (h : Cert.Pre_KernelIdeal m) (d : Dev Cert.KernelIdeal.nD) (j : Cert.KernelIdeal.S1024x50.Idx) :
    (Cert.KernelIdeal.Own.words m d j).toNat < 100000 :=
  Cert.KernelIdeal.Own.word_in_table _ (compared _ _ _ _ _ _ (h d) j)

/-- The row numbers the program finds are rows of the table, at the ideal instance. -/
theorem rows_i (m : (ℓ : Loc Cert.KernelIdeal.nD Cert.KernelIdeal.τ Cert.KernelIdeal.sig) → Buf (Elt Ideal) ℓ)
    (h : Cert.Pre_KernelIdeal m) (d : Dev Cert.KernelIdeal.nD) (j : Cert.KernelIdeal.S51200.Idx) :
    (Cert.KernelIdeal.Own.nums m d j).toNat < 100000 :=
  Cert.KernelIdeal.Own.nums_in_table m (words_i m h) d j

/-- The program runs, leaves its arguments as they were, and ends with every semaphore at zero. -/
theorem frame_p : Cert.quiescent_Kernel := fun m ρ h =>
  (θ_run Cert.Kernel.defs _ _).mono
    (fun r q =>
      have e (c : Dev Cert.Kernel.nD) (b : Ref Cert.Kernel.sig .tc) (hb : (b : DevRef Cert.Kernel.τ Cert.Kernel.sig) ∈ Cert.Kernel.Own.endBufs) hn :=
        Cert.Kernel.Own.end_arg m (rows_p m h) c b _ (q.1 c b hb) hn
      ⟨fun c => ⟨e c Cert.Kernel.main_arg0 (by decide) (by decide), e c Cert.Kernel.main_arg1 (by decide) (by decide),
        e c Cert.Kernel.main_arg2 (by decide) (by decide), e c Cert.Kernel.main_arg3 (by decide) (by decide),
        e c Cert.Kernel.main_arg4 (by decide) (by decide), e c Cert.Kernel.main_arg5 (by decide) (by decide)⟩, q.2⟩)
    (Cert.Kernel.Own.run_main (F := Bits) m (rows_p m h) ρ)

/-- The program at the ideal instance: its run ends with the result at its computed value, the arguments as they were
    and every semaphore at zero. -/
theorem run_i (m : (ℓ : Loc Cert.KernelIdeal.nD Cert.KernelIdeal.τ Cert.KernelIdeal.sig) → Buf (Elt Ideal) ℓ)
    (ρ : Dev Cert.KernelIdeal.nD → PrngReg) (h : Cert.Pre_KernelIdeal m) :
    θ_run (Cert.KernelIdeal.defs (F := Ideal)) (Cert.KernelIdeal.threads (F := Ideal)) ⟨m, fun _ => 0, ρ⟩ (fun r =>
      (∀ c : Dev Cert.KernelIdeal.nD,
        r.2.mem ((c.tc : Thread Cert.KernelIdeal.nD Cert.KernelIdeal.τ).loc Cert.KernelIdeal.main_v6) = Cert.KernelIdeal.Own.refValue m c
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0) :=
  (θ_run Cert.KernelIdeal.defs _ _).mono
    (fun r q =>
      have e (c : Dev Cert.KernelIdeal.nD) (b : Ref Cert.KernelIdeal.sig .tc) (hb : (b : DevRef Cert.KernelIdeal.τ Cert.KernelIdeal.sig) ∈ Cert.KernelIdeal.Own.endBufs) hn :=
        Cert.KernelIdeal.Own.end_arg m (rows_i m h) c b _ (q.1 c b hb) hn
      ⟨fun c => ⟨(q.1 c Cert.KernelIdeal.main_v6 (by decide)).trans
            ((Cert.KernelIdeal.Own.W7_result m (rows_i m h) c).trans (Cert.KernelIdeal.Own.result_eq_ref m (rows_i m h) (words_i m h) c)),
        e c Cert.KernelIdeal.main_arg0 (by decide) (by decide), e c Cert.KernelIdeal.main_arg1 (by decide) (by decide),
        e c Cert.KernelIdeal.main_arg2 (by decide) (by decide), e c Cert.KernelIdeal.main_arg3 (by decide) (by decide),
        e c Cert.KernelIdeal.main_arg4 (by decide) (by decide), e c Cert.KernelIdeal.main_arg5 (by decide) (by decide)⟩, q.2⟩)
    (Cert.KernelIdeal.Own.run_main (F := Ideal) m (rows_i m h) ρ)

/-- The same frame at the ideal instance. -/
theorem frame_i : Cert.quiescent_KernelIdeal := fun m ρ h =>
  (θ_run Cert.KernelIdeal.defs _ _).mono (fun r q => ⟨fun c => (q.1 c).2, q.2⟩) (run_i m ρ h)

/-- The reference runs and leaves its arguments as they were; it has no semaphore. -/
theorem frame_r : Cert.quiescent_ReferenceIdeal := fun m ρ _ =>
  (θ_run Cert.ReferenceIdeal.defs _ _).mono
    (fun r q => ⟨fun c => (q c).2, sem_eq_zero_of_no_sems (by decide) r.2⟩) (Cert.ReferenceIdeal.Value.run (F := Ideal) m ρ)

/-- Over the extended reals the program and the reference end with the same result. -/
theorem same : Cert.algebraic_KernelIdeal_ReferenceIdeal := by
  intro m ρ m' ρ' h agree
  refine ⟨fun c => Cert.KernelIdeal.Own.refValue m c, (θ_run Cert.KernelIdeal.defs _ _).mono (fun r q => q.1) (run_i m ρ h), ?_⟩
  refine (θ_run Cert.ReferenceIdeal.defs _ _).mono (fun r q c => ⟨(q c).1.trans ?_, (q c).2⟩)
    (Cert.ReferenceIdeal.Value.run (F := Ideal) m' ρ')
  obtain ⟨h0, h1, h2, h3, h4, h5⟩ := agree c
  rw [h0, h1, h2, h3, h4, h5]
  rfl

/-- Every claim of `Cert.Claim`. -/
theorem claim : Cert.Claim := ⟨Cert.Kernel.Gen.facts, Cert.KernelIdeal.Gen.facts, Cert.ReferenceIdeal.Gen.facts, Cert.Pre_words_in_table.Gen.facts,
  frame_p, frame_i, frame_r, fun m ρ _ => frame_r m ρ trivial, trivial, same⟩

end Cert.Proof

end
